-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded_and_apart [hPre_bounded_and_apart : Cert.Pre_bounded_and_apart.Facts] (m : (ℓ : Loc Cert.KernelIdeal.nD Cert.KernelIdeal.τ Cert.KernelIdeal.sig) → Buf (Elt Ideal) ℓ) : Prop :=
  ∀ c : Dev Cert.KernelIdeal.nD,
    (Cert.Pre_bounded_and_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_bounded_and_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_bounded_and_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded_and_apart [hPre_bounded_and_apart : Cert.Pre_bounded_and_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded_and_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_bounded_and_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_bounded_and_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_bounded_and_apart [hKernelIdeal : Cert.KernelIdeal.Facts] [hPre_bounded_and_apart : Cert.Pre_bounded_and_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded_and_apart m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_bounded_and_apart [hReferenceIdeal : Cert.ReferenceIdeal.Facts] [hPre_bounded_and_apart : Cert.Pre_bounded_and_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded_and_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "big" .f32 0x7F61B1E6#32 ⊤

def algebraic_KernelIdeal_ReferenceIdeal_pre_bounded_and_apart [hKernelIdeal : Cert.KernelIdeal.Facts] [hReferenceIdeal : Cert.ReferenceIdeal.Facts] [hPre_bounded_and_apart : Cert.Pre_bounded_and_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded_and_apart m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_bounded_and_apart : Cert.Pre_bounded_and_apart.Facts),
    quiescent_Kernel (hKernel := hKernel)
    ∧ quiescent_KernelIdeal (hKernelIdeal := hKernelIdeal)
    ∧ quiescent_KernelIdeal_pre_bounded_and_apart (hKernelIdeal := hKernelIdeal) (hPre_bounded_and_apart := hPre_bounded_and_apart)
    ∧ quiescent_ReferenceIdeal (hReferenceIdeal := hReferenceIdeal)
    ∧ quiescent_ReferenceIdeal_pre_bounded_and_apart (hReferenceIdeal := hReferenceIdeal) (hPre_bounded_and_apart := hPre_bounded_and_apart)
    ∧ preserves_Kernel_KernelIdeal
    ∧ algebraic_KernelIdeal_ReferenceIdeal_pre_bounded_and_apart (hKernelIdeal := hKernelIdeal) (hReferenceIdeal := hReferenceIdeal) (hPre_bounded_and_apart := hPre_bounded_and_apart)
-- ==== Pre_bounded_and_apart.lean ====
abbrev S2x4096x3 : Shape := ⟨3, ![2, 4096, 3]⟩
abbrev S2x4096x64 : Shape := ⟨3, ![2, 4096, 64]⟩
abbrev S10x64 : Shape := ⟨2, ![10, 64]⟩
abbrev S64 : Shape := ⟨1, ![64]⟩
abbrev S128x128 : Shape := ⟨2, ![128, 128]⟩
abbrev S128 : Shape := ⟨1, ![128]⟩
abbrev S2x4096x1x3 : Shape := ⟨4, ![2, 4096, 1, 3]⟩
abbrev S2x1x4096x3 : Shape := ⟨4, ![2, 1, 4096, 3]⟩
abbrev S2x4096x4096x3 : Shape := ⟨4, ![2, 4096, 4096, 3]⟩
abbrev S_ : Shape := ⟨0, ![]⟩
abbrev S2x4096x4096 : Shape := ⟨3, ![2, 4096, 4096]⟩
abbrev S2x4096x17 : Shape := ⟨3, ![2, 4096, 17]⟩
abbrev S3x64 : Shape := ⟨2, ![3, 64]⟩
abbrev S2x4096x16 : Shape := ⟨3, ![2, 4096, 16]⟩

class Facts : Prop where
  bcast_S2x4096x3_S2x4096x1x3_0_1_3 : S2x4096x3.BroadcastsInDim S2x4096x1x3 (![0, 1, 3] : Fin 3 → Fin S2x4096x1x3.rank)
  bcast_S2x4096x3_S2x1x4096x3_0_2_3 : S2x4096x3.BroadcastsInDim S2x1x4096x3 (![0, 2, 3] : Fin 3 → Fin S2x1x4096x3.rank)
  bcast_S2x4096x1x3_S2x4096x4096x3_0_1_2_3 : S2x4096x1x3.BroadcastsInDim S2x4096x4096x3 (![0, 1, 2, 3] : Fin 4 → Fin S2x4096x4096x3.rank)
  bcast_S2x1x4096x3_S2x4096x4096x3_0_1_2_3 : S2x1x4096x3.BroadcastsInDim S2x4096x4096x3 (![0, 1, 2, 3] : Fin 4 → Fin S2x4096x4096x3.rank)
  reducesTo_S2x4096x4096x3_S2x4096x4096_d3 : S2x4096x4096x3.ReducesTo [3] S2x4096x4096
  h_S_ : 0 < S_.numel
  sliceFits_S2x4096x4096_S2x4096x17 : S2x4096x4096.Slices (fun _ => 0) S2x4096x17
  bcast_S_S2x4096x64 : S_.BroadcastsInDim S2x4096x64 (![] : Fin 0 → Fin S2x4096x64.rank)
  slices_S10x64_S3x64_6_0 : S10x64.Slices ![6, 0] S3x64
  bcast_S_S3x64 : S_.BroadcastsInDim S3x64 (![] : Fin 0 → Fin S3x64.rank)
  slices_S2x4096x17_S2x4096x16_0_0_0 : S2x4096x17.Slices ![0, 0, 0] S2x4096x16
  slices_S2x4096x17_S2x4096x16_0_0_1 : S2x4096x17.Slices ![0, 0, 1] S2x4096x16

variable [Facts]

def fn {F : FTy → Type} [FloatOps F] (main_arg0 : FVec F S2x4096x3 .f32) (main_arg1 : FVec F S2x4096x64 .f32) (main_arg2 : FVec F S10x64 .f32) (main_arg3 : FVec F S64 .f32) (main_arg4 : FVec F S128x128 .f32) (main_arg5 : FVec F S128 .f32) (main_arg6 : FVec F S128x128 .f32) (main_arg7 : FVec F S128 .f32) : IVec S2x4096x64 1 × IVec S3x64 1 × IVec S2x4096x16 1 :=
  let main_v0 : FVec F S2x4096x1x3 .f32 := broadcastInDim S2x4096x1x3 ![0, 1, 3] bcast_S2x4096x3_S2x4096x1x3_0_1_3 main_arg0
  let main_v1 : FVec F S2x1x4096x3 .f32 := broadcastInDim S2x1x4096x3 ![0, 2, 3] bcast_S2x4096x3_S2x1x4096x3_0_2_3 main_arg0
  let main_v2 : FVec F S2x4096x4096x3 .f32 := broadcastInDim S2x4096x4096x3 ![0, 1, 2, 3] bcast_S2x4096x1x3_S2x4096x4096x3_0_1_2_3 main_v0
  let main_v3 : FVec F S2x4096x4096x3 .f32 := broadcastInDim S2x4096x4096x3 ![0, 1, 2, 3] bcast_S2x1x4096x3_S2x4096x4096x3_0_1_2_3 main_v1
  let main_v4 : FVec F S2x4096x4096x3 .f32 := subf main_v2 main_v3
  let main_v5 : FVec F S2x4096x4096x3 .f32 := mulf main_v4 main_v4
  let main_cst : FVec F S_ .f32 := constant S_ .f32 0x00000000#32
  let main_v6 : FVec F S2x4096x4096 .f32 := (fun x v => Host.reduceAdd x v reducesTo_S2x4096x4096x3_S2x4096x4096_d3 h_S_) main_v5 main_cst
  let main_v7 : FVec F S2x4096x4096 .f32 := Host.negf main_v6
  let main_values : FVec F S2x4096x17 .f32 := (fun x => (Host.topK S2x4096x17 2 (FloatOps.cmpfTotal .gt) x sliceFits_S2x4096x4096_S2x4096x17).1) main_v7
  let main_indices : IVec S2x4096x17 32 := (fun x => (Host.topK S2x4096x17 2 (FloatOps.cmpfTotal .gt) x sliceFits_S2x4096x4096_S2x4096x17).2) main_v7
  let main_cst_0 : FVec F S_ .f32 := constant S_ .f32 0x7F800000#32
  let main_v8 : FVec F S2x4096x64 .f32 := broadcastInDim S2x4096x64 ![] bcast_S_S2x4096x64 main_cst_0
  let main_v9 : IVec S2x4096x64 1 := cmpf .olt main_arg1 main_v8
  let main_v10 : FVec F S3x64 .f32 := (extractStridedSlice S3x64 ![6, 0] · slices_S10x64_S3x64_6_0) main_arg2
  let main_v11 : FVec F S3x64 .f32 := Host.absf main_v10
  let main_cst_1 : FVec F S_ .f32 := constant S_ .f32 0x7F800000#32
  let main_v12 : FVec F S3x64 .f32 := broadcastInDim S3x64 ![] bcast_S_S3x64 main_cst_1
  let main_v13 : IVec S3x64 1 := cmpf .olt main_v11 main_v12
  let main_v14 : FVec F S2x4096x16 .f32 := (extractStridedSlice S2x4096x16 ![0, 0, 0] · slices_S2x4096x17_S2x4096x16_0_0_0) main_values
  let main_v15 : FVec F S2x4096x16 .f32 := (extractStridedSlice S2x4096x16 ![0, 0, 1] · slices_S2x4096x17_S2x4096x16_0_0_1) main_values
  let main_v16 : IVec S2x4096x16 1 := cmpf .ogt main_v14 main_v15
  (main_v9, main_v13, main_v16)
-- ==== Kernel.lean ====
abbrev S2x4096x3 : Shape := ⟨3, ![2, 4096, 3]⟩
abbrev S2x4096x64 : Shape := ⟨3, ![2, 4096, 64]⟩
abbrev S10x64 : Shape := ⟨2, ![10, 64]⟩
abbrev S64 : Shape := ⟨1, ![64]⟩
abbrev S128x128 : Shape := ⟨2, ![128, 128]⟩
abbrev S128 : Shape := ⟨1, ![128]⟩
abbrev S2x3x4096 : Shape := ⟨3, ![2, 3, 4096]⟩
abbrev S_ : Shape := ⟨0, ![]⟩
abbrev S2x4096x61 : Shape := ⟨3, ![2, 4096, 61]⟩
abbrev S2x4096x128 : Shape := ⟨3, ![2, 4096, 128]⟩
abbrev S2x4096x256 : Shape := ⟨3, ![2, 4096, 256]⟩
abbrev S1x1024x3 : Shape := ⟨3, ![1, 1024, 3]⟩
abbrev S1x3x4096 : Shape := ⟨3, ![1, 3, 4096]⟩
abbrev S1x4096x256 : Shape := ⟨3, ![1, 4096, 256]⟩
abbrev S1x1024x128 : Shape := ⟨3, ![1, 1024, 128]⟩
abbrev S1024x3 : Shape := ⟨2, ![1024, 3]⟩
abbrev S3x4096 : Shape := ⟨2, ![3, 4096]⟩
abbrev S4096x256 : Shape := ⟨2, ![4096, 256]⟩
abbrev S3x64 : Shape := ⟨2, ![3, 64]⟩
abbrev S1x64 : Shape := ⟨2, ![1, 64]⟩
abbrev S1024x4096 : Shape := ⟨2, ![1024, 4096]⟩
abbrev S1024x1 : Shape := ⟨2, ![1024, 1]⟩
abbrev S1x4096 : Shape := ⟨2, ![1, 4096]⟩
abbrev S1024x64 : Shape := ⟨2, ![1024, 64]⟩
abbrev S1024x128 : Shape := ⟨2, ![1024, 128]⟩
abbrev S1024 : Shape := ⟨1, ![1024]⟩
abbrev S1024x256 : Shape := ⟨2, ![1024, 256]⟩
abbrev S1x128 : Shape := ⟨2, ![1, 128]⟩

abbrev nBuf : Space → Nat
  | .hbm => 18
  | .vmem => 14
  | .smem => 0
  | _ => 0

abbrev bufTy : (tb : Table) → Fin (tcTables nBuf tb) → BufTy
  | .hbm, ⟨0, _⟩ => ⟨S2x4096x3, .f32⟩
  | .hbm, ⟨1, _⟩ => ⟨S2x4096x64, .f32⟩
  | .hbm, ⟨2, _⟩ => ⟨S10x64, .f32⟩
  | .hbm, ⟨3, _⟩ => ⟨S64, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S2x3x4096, .f32⟩
  | .hbm, ⟨9, _⟩ => ⟨S_, .f32⟩
  | .hbm, ⟨10, _⟩ => ⟨S2x4096x61, .f32⟩
  | .hbm, ⟨11, _⟩ => ⟨S2x4096x128, .f32⟩
  | .hbm, ⟨12, _⟩ => ⟨S2x4096x128, .bf16⟩
  | .hbm, ⟨13, _⟩ => ⟨S2x4096x128, .f32⟩
  | .hbm, ⟨14, _⟩ => ⟨S2x4096x128, .f32⟩
  | .hbm, ⟨15, _⟩ => ⟨S2x4096x128, .bf16⟩
  | .hbm, ⟨16, _⟩ => ⟨S2x4096x256, .bf16⟩
  | .hbm, ⟨17, _⟩ => ⟨S2x4096x128, .f32⟩
  | .local _ .vmem, ⟨0, _⟩ => ⟨S1x1024x3, .f32⟩
  | .local _ .vmem, ⟨1, _⟩ => ⟨S1x1024x3, .f32⟩
  | .local _ .vmem, ⟨2, _⟩ => ⟨S1x3x4096, .f32⟩
  | .local _ .vmem, ⟨3, _⟩ => ⟨S1x3x4096, .f32⟩
  | .local _ .vmem, ⟨4, _⟩ => ⟨S1x4096x256, .bf16⟩
  | .local _ .vmem, ⟨5, _⟩ => ⟨S1x4096x256, .bf16⟩
  | .local _ .vmem, ⟨6, _⟩ => ⟨S10x64, .f32⟩
  | .local _ .vmem, ⟨7, _⟩ => ⟨S64, .f32⟩
  | .local _ .vmem, ⟨8, _⟩ => ⟨S128x128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S1x1024x128, .f32⟩
  | .local _ .vmem, ⟨13, _⟩ => ⟨S1x1024x128, .f32⟩
  | _, _ => ⟨S2x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![2, 4], ![false, false]⟩

@[reducible] def k0_t1_loop : Scf.Loop 32 :=
  let c0_i32 : BitVec 32 := 0#32
  let c15_i32 : BitVec 32 := 15#32
  let v111 : BitVec 32 := Scalar.addi c0_i32 c15_i32
  let c1_i32 : BitVec 32 := 1#32
  ⟨c0_i32, v111, c1_i32⟩
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S10x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "big" => some ⊤
  | _ => none
-- ==== ReferenceIdeal.lean ====
abbrev S2x4096x3 : Shape := ⟨3, ![2, 4096, 3]⟩
abbrev S2x4096x64 : Shape := ⟨3, ![2, 4096, 64]⟩
abbrev S10x64 : Shape := ⟨2, ![10, 64]⟩
abbrev S64 : Shape := ⟨1, ![64]⟩
abbrev S128x128 : Shape := ⟨2, ![128, 128]⟩
abbrev S128 : Shape := ⟨1, ![128]⟩
abbrev S2x4096x1x3 : Shape := ⟨4, ![2, 4096, 1, 3]⟩
abbrev S2x1x4096x3 : Shape := ⟨4, ![2, 1, 4096, 3]⟩
abbrev S2x4096x4096x3 : Shape := ⟨4, ![2, 4096, 4096, 3]⟩
abbrev S_ : Shape := ⟨0, ![]⟩
abbrev S2x4096x4096 : Shape := ⟨3, ![2, 4096, 4096]⟩
abbrev S2x4096x16 : Shape := ⟨3, ![2, 4096, 16]⟩
abbrev S2x4096x16x1 : Shape := ⟨4, ![2, 4096, 16, 1]⟩
abbrev S2x4096x16x3 : Shape := ⟨4, ![2, 4096, 16, 3]⟩
abbrev S2x4096x1x16x3 : Shape := ⟨5, ![2, 4096, 1, 16, 3]⟩
abbrev S2x4096x16x10 : Shape := ⟨4, ![2, 4096, 16, 10]⟩
abbrev S2x4096x16x64 : Shape := ⟨4, ![2, 4096, 16, 64]⟩
abbrev S1x1x1x64 : Shape := ⟨4, ![1, 1, 1, 64]⟩
abbrev S2x4096x16x128 : Shape := ⟨4, ![2, 4096, 16, 128]⟩
abbrev S1x1x1x128 : Shape := ⟨4, ![1, 1, 1, 128]⟩
abbrev S2x4096x128 : Shape := ⟨3, ![2, 4096, 128]⟩
abbrev S1x1x128 : Shape := ⟨3, ![1, 1, 128]⟩

abbrev nBuf : Space → Nat
  | .hbm => 86
  | .vmem => 0
  | .smem => 0
  | _ => 0

abbrev bufTy : (tb : Table) → Fin (tcTables nBuf tb) → BufTy
  | .hbm, ⟨0, _⟩ => ⟨S2x4096x3, .f32⟩
  | .hbm, ⟨1, _⟩ => ⟨S2x4096x64, .f32⟩
  | .hbm, ⟨2, _⟩ => ⟨S10x64, .f32⟩
  | .hbm, ⟨3, _⟩ => ⟨S64, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S2x4096x1x3, .f32⟩
  | .hbm, ⟨9, _⟩ => ⟨S2x1x4096x3, .f32⟩
  | .hbm, ⟨10, _⟩ => ⟨S2x4096x4096x3, .f32⟩
  | .hbm, ⟨11, _⟩ => ⟨S2x4096x4096x3, .f32⟩
  | .hbm, ⟨12, _⟩ => ⟨S2x4096x4096x3, .f32⟩
  | .hbm, ⟨13, _⟩ => ⟨S2x4096x4096x3, .f32⟩
  | .hbm, ⟨14, _⟩ => ⟨S_, .f32⟩
  | .hbm, ⟨15, _⟩ => ⟨S2x4096x4096, .f32⟩
  | .hbm, ⟨16, _⟩ => ⟨S2x4096x4096, .f32⟩
  | .hbm, ⟨17, _⟩ => ⟨S2x4096x16, .f32⟩
  | .hbm, ⟨18, _⟩ => ⟨S2x4096x16, .i32⟩
  | .hbm, ⟨19, _⟩ => ⟨S_, .i32⟩
  | .hbm, ⟨20, _⟩ => ⟨S2x4096x16, .i32⟩
  | .hbm, ⟨21, _⟩ => ⟨S2x4096x16, .i1⟩
  | .hbm, ⟨22, _⟩ => ⟨S_, .i32⟩
  | .hbm, ⟨23, _⟩ => ⟨S2x4096x16, .i32⟩
  | .hbm, ⟨24, _⟩ => ⟨S2x4096x16, .i32⟩
  | .hbm, ⟨25, _⟩ => ⟨S2x4096x16, .i32⟩
  | .hbm, ⟨26, _⟩ => ⟨S2x4096x16x1, .i32⟩
  | .hbm, ⟨27, _⟩ => ⟨S2x4096x16x3, .f32⟩
  | .hbm, ⟨28, _⟩ => ⟨S2x4096x1x3, .f32⟩
  | .hbm, ⟨29, _⟩ => ⟨S2x4096x1x16x3, .f32⟩
  | .hbm, ⟨30, _⟩ => ⟨S2x4096x16x3, .f32⟩
  | .hbm, ⟨31, _⟩ => ⟨S2x4096x16x3, .f32⟩
  | .hbm, ⟨32, _⟩ => ⟨S2x4096x16x3, .f32⟩
  | .hbm, ⟨33, _⟩ => ⟨S_, .f32⟩
  | .hbm, ⟨34, _⟩ => ⟨S2x4096x16, .f32⟩
  | .hbm, ⟨35, _⟩ => ⟨S2x4096x16x1, .f32⟩
  | .hbm, ⟨36, _⟩ => ⟨S_, .f32⟩
  | .hbm, ⟨37, _⟩ => ⟨S2x4096x16x1, .f32⟩
  | .hbm, ⟨38, _⟩ => ⟨S2x4096x16x1, .f32⟩
  | .hbm, ⟨39, _⟩ => ⟨S2x4096x16x1, .f32⟩
  | .hbm, ⟨40, _⟩ => ⟨S2x4096x16x10, .f32⟩
  | .hbm, ⟨41, _⟩ => ⟨S2x4096x16x64, .f32⟩
  | .hbm, ⟨42, _⟩ => ⟨S1x1x1x64, .f32⟩
  | .hbm, ⟨43, _⟩ => ⟨S2x4096x16x64, .f32⟩
  | .hbm, ⟨44, _⟩ => ⟨S2x4096x16x64, .f32⟩
  | .hbm, ⟨45, _⟩ => ⟨S_, .f32⟩
  | .hbm, ⟨46, _⟩ => ⟨S2x4096x16x64, .f32⟩
  | .hbm, ⟨47, _⟩ => ⟨S2x4096x16x64, .f32⟩
  | .hbm, ⟨48, _⟩ => ⟨S_, .i32⟩
  | .hbm, ⟨49, _⟩ => ⟨S2x4096x16, .i32⟩
  | .hbm, ⟨50, _⟩ => ⟨S2x4096x16, .i1⟩
  | .hbm, ⟨51, _⟩ => ⟨S_, .i32⟩
  | .hbm, ⟨52, _⟩ => ⟨S2x4096x16, .i32⟩
  | .hbm, ⟨53, _⟩ => ⟨S2x4096x16, .i32⟩
  | .hbm, ⟨54, _⟩ => ⟨S2x4096x16, .i32⟩
  | .hbm, ⟨55, _⟩ => ⟨S2x4096x16x1, .i32⟩
  | .hbm, ⟨56, _⟩ => ⟨S2x4096x16x64, .f32⟩
  | .hbm, ⟨57, _⟩ => ⟨S2x4096x16x128, .f32⟩
  | .hbm, ⟨58, _⟩ => ⟨S2x4096x16x128, .f32⟩
  | .hbm, ⟨59, _⟩ => ⟨S1x1x1x128, .f32⟩
  | .hbm, ⟨60, _⟩ => ⟨S2x4096x16x128, .f32⟩
  | .hbm, ⟨61, _⟩ => ⟨S2x4096x16x128, .f32⟩
  | .hbm, ⟨62, _⟩ => ⟨S_, .f32⟩
  | .hbm, ⟨63, _⟩ => ⟨S2x4096x16, .f32⟩
  | .hbm, ⟨64, _⟩ => ⟨S_, .f32⟩
  | .hbm, ⟨65, _⟩ => ⟨S2x4096x16, .f32⟩
  | .hbm, ⟨66, _⟩ => ⟨S2x4096x16, .f32⟩
  | .hbm, ⟨67, _⟩ => ⟨S2x4096x16x1, .f32⟩
  | .hbm, ⟨68, _⟩ => ⟨S2x4096x16x128, .f32⟩
  | .hbm, ⟨69, _⟩ => ⟨S2x4096x16x128, .f32⟩
  | .hbm, ⟨70, _⟩ => ⟨S2x4096x16x128, .f32⟩
  | .hbm, ⟨71, _⟩ => ⟨S_, .f32⟩
  | .hbm, ⟨72, _⟩ => ⟨S2x4096x16, .f32⟩
  | .hbm, ⟨73, _⟩ => ⟨S2x4096x16x1, .f32⟩
  | .hbm, ⟨74, _⟩ => ⟨S2x4096x16x128, .f32⟩
  | .hbm, ⟨75, _⟩ => ⟨S2x4096x16x128, .f32⟩
  | .hbm, ⟨76, _⟩ => ⟨S2x4096x16x128, .f32⟩
  | .hbm, ⟨77, _⟩ => ⟨S_, .f32⟩
  | .hbm, ⟨78, _⟩ => ⟨S2x4096x128, .f32⟩
  | .hbm, ⟨79, _⟩ => ⟨S2x4096x128, .f32⟩
  | .hbm, ⟨80, _⟩ => ⟨S1x1x128, .f32⟩
  | .hbm, ⟨81, _⟩ => ⟨S2x4096x128, .f32⟩
  | .hbm, ⟨82, _⟩ => ⟨S2x4096x128, .f32⟩
  | .hbm, ⟨83, _⟩ => ⟨S_, .f32⟩
  | .hbm, ⟨84, _⟩ => ⟨S2x4096x128, .f32⟩
  | .hbm, ⟨85, _⟩ => ⟨S2x4096x128, .f32⟩
  | _, _ => ⟨S2x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_values : Ref sig .tc := ⟨.hbm, 17, rfl⟩
abbrev main_indices : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_call0_cst : Ref sig .tc := ⟨.hbm, 45, rfl⟩
abbrev main_call0_v0 : Ref sig .tc := ⟨.hbm, 46, rfl⟩
abbrev main_v30 : Ref sig .tc := ⟨.hbm, 47, rfl⟩
abbrev main_c_3 : Ref sig .tc := ⟨.hbm, 48, rfl⟩
abbrev main_v31 : Ref sig .tc := ⟨.hbm, 49, rfl⟩
abbrev main_v32 : Ref sig .tc := ⟨.hbm, 50, rfl⟩
abbrev main_c_4 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_5 : Ref sig .tc := ⟨.hbm, 62, rfl⟩
abbrev main_v43 : Ref sig .tc := ⟨.hbm, 63, rfl⟩
abbrev main_cst_6 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_7 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_8 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_call1_cst : Ref sig .tc := ⟨.hbm, 83, rfl⟩
abbrev main_call1_v0 : Ref sig .tc := ⟨.hbm, 84, rfl⟩
abbrev main_v60 : Ref sig .tc := ⟨.hbm, 85, rfl⟩

abbrev nD : Nat := 1
abbrev τ : Topo := Topo.v7x

variable {F : FTy → Type} [FloatOps F]
-- ==== Proof.PreFacts.lean ====
module

public import proofs.«01_k».proof.Pre_bounded_and_apart
public import Idealize.ShloMosaic.Lib.Decide

/-! The shape relations the precondition's operations take. -/

@[expose] public section

namespace Cert.Pre_bounded_and_apart

open Idealize.ShloMosaic

/-- The side conditions of the precondition's operations hold. -/
theorem facts : Facts where
  bcast_S2x4096x3_S2x4096x1x3_0_1_3 := by decide
  bcast_S2x4096x3_S2x1x4096x3_0_2_3 := by decide
  bcast_S2x4096x1x3_S2x4096x4096x3_0_1_2_3 := by decide
  bcast_S2x1x4096x3_S2x4096x4096x3_0_1_2_3 := by decide
  reducesTo_S2x4096x4096x3_S2x4096x4096_d3 := by decide
  h_S_ := by decide
  sliceFits_S2x4096x4096_S2x4096x17 := by decide
  bcast_S_S2x4096x64 := by decide
  slices_S10x64_S3x64_6_0 := by decide
  bcast_S_S3x64 := by decide
  slices_S2x4096x17_S2x4096x16_0_0_0 := by decide
  slices_S2x4096x17_S2x4096x16_0_0_1 := by decide

end Cert.Pre_bounded_and_apart
-- ==== Proof.Nearest.lean ====
module

public import Idealize.ShloMosaic.Lib.SortFacts
public import Idealize.ShloMosaic.Lib.Pointwise
public import Idealize.ShloMosaic.Lib.IdealHost

/-! Taking the smallest of 4096 keys again and again finds the keys in the order in which a stable sort by the opposite
of the key lists them, as long as the first seventeen of that list are strictly apart. -/

@[expose] public section

namespace Cert.Near

open Idealize.ShloMosaic

/-- The order in which the sort compares positions: the one with the greater value of `x` first. -/
noncomputable def before (x : Fin 4096 → EReal) (k k' : Fin 4096) : Bool := FloatOps.cmpfTotal (F := Ideal) (φ := .f32) .gt (x k) (x k') == 1#1

/-- Position `k` goes before position `k'` exactly if its value is greater. -/
theorem before_iff (x : Fin 4096 → EReal) (k k' : Fin 4096) : before x k k' = true ↔ x k' < x k := by
  unfold before
  show (Ideal.cmp .ogt (x k) (x k') == 1#1) = true ↔ _
  rw [beq_iff_eq]
  exact Ideal.cmp_ogt_eq_one _ _

/-- The `t`-th position in order of growing key. -/
noncomputable def nth (key : Fin 4096 → EReal) (t : Fin 4096) : Fin 4096 := sortedFrom (before fun j => -(key j)) t

/-- Every position is the `t`-th one for some `t`. -/
theorem nth_surjective (key : Fin 4096 → EReal) : Function.Surjective (nth key) := sortedFrom_surjective _

/-- No position occurs twice. -/
theorem nth_injective (key : Fin 4096 → EReal) : Function.Injective (nth key) := sortedFrom_injective _

/-- The keys grow along the list. -/
theorem nth_mono (key : Fin 4096 → EReal) (i j : Fin 4096) (h : i < j) : key (nth key i) ≤ key (nth key j) := by
  have hb : before (fun j => -(key j)) (nth key j) (nth key i) = false := by
    refine sortedFrom_noInversion (before fun j => -(key j)) (before fun j => -(key j)) (fun a b hab => ?_)
      (fun _ _ h => h) (fun a b c hab hbc => ?_) i j h
    · rw [before_iff] at hab
      rw [Bool.eq_false_iff, Ne, before_iff]; exact not_lt.mpr hab.le
    · rw [Bool.eq_false_iff, Ne, before_iff] at *
      push Not at *
      exact hab.trans hbc
  rw [Bool.eq_false_iff, Ne, before_iff, not_lt] at hb
  exact EReal.neg_le_neg_iff.mp hb

/-- The first seventeen keys of the list are strictly growing. -/
def Apart (key : Fin 4096 → EReal) : Prop :=
  ∀ t : Fin 16, key (nth key ⟨t, by omega⟩) < key (nth key ⟨t + 1, by omega⟩)

/-- The keys with the first `n` positions of the list masked by plus infinity. -/
noncomputable def masked (key : Fin 4096 → EReal) : ℕ → Fin 4096 → EReal
  | 0, j => key j
  | n + 1, j => if h : n < 4096 then (if j = nth key ⟨n, h⟩ then ⊤ else masked key n j) else masked key n j

/-- After `n` maskings the positions `0` to `n - 1` of the list hold plus infinity and the others their key. -/
theorem masked_nth (key : Fin 4096 → EReal) (n : ℕ) (s : Fin 4096) :
    masked key n (nth key s) = if s.val < n then ⊤ else key (nth key s) := by
  induction n with
  | zero => simp [masked]
  | succ n ih =>
    unfold masked
    split_ifs with h1 h2 h3 h3
    · rfl
    · exact absurd (Fin.val_eq_of_eq (nth_injective key h2)) (by simp; omega)
    · rw [ih, if_pos]
      rcases Nat.lt_succ_iff_lt_or_eq.mp h3 with h | h
      · exact h
      · exact absurd (congrArg (nth key) (Fin.ext h : s = ⟨n, h1⟩)) h2
    · rw [ih, if_neg (by omega)]
    · rw [ih, if_pos (by omega)]
    · exact absurd s.isLt (by omega)

/-- The smallest of the keys that are left after `t` maskings is the `t`-th key. -/
theorem le_nth_iff (key : Fin 4096 → EReal) (t : Fin 16) (c : EReal) :
    (∀ j, c ≤ masked key t j) ↔ c ≤ key (nth key ⟨t, by omega⟩) := by
  constructor
  · intro h
    have := h (nth key ⟨t, by omega⟩)
    rwa [masked_nth, if_neg (by simp)] at this
  · intro h j
    obtain ⟨s, rfl⟩ := nth_surjective key j
    rw [masked_nth]
    split_ifs with h1
    · exact le_top
    · refine h.trans ?_
      rcases eq_or_lt_of_le (not_lt.mp h1) with h2 | h2
      · exact le_of_eq (congrArg (fun s => key (nth key s)) (Fin.ext h2))
      · exact nth_mono key _ _ (Fin.lt_def.mpr h2)

/-- Only the `t`-th position has that key. -/
theorem masked_le_iff (key : Fin 4096 → EReal) (hk : Apart key) (t : Fin 16) (j : Fin 4096) :
    masked key t j ≤ key (nth key ⟨t, by omega⟩) ↔ j = nth key ⟨t, by omega⟩ := by
  obtain ⟨s, rfl⟩ := nth_surjective key j
  rw [masked_nth]
  constructor
  · intro h
    split_ifs at h with h1
    · exact absurd ((hk t).trans_le le_top) (not_lt.mpr h)
    · refine congrArg (nth key) (Fin.ext ?_)
      by_contra h2
      have h3 : key (nth key ⟨t + 1, by omega⟩) ≤ key (nth key s) := by
        rcases eq_or_lt_of_le (show t.val + 1 ≤ s.val by simp at h1 h2; omega) with h4 | h4
        · exact le_of_eq (congrArg (fun s => key (nth key s)) (Fin.ext h4))
        · exact nth_mono key _ _ (Fin.lt_def.mpr h4)
      exact absurd ((hk t).trans_le h3) (not_lt.mpr h)
  · intro h
    have h1 := Fin.val_eq_of_eq (nth_injective key h)
    rw [if_neg (by simp at h1; omega), h]

/-- One more masking: what is not above the smallest key left becomes plus infinity. -/
theorem masked_succ (key : Fin 4096 → EReal) (hk : Apart key) (t : Fin 16) (j : Fin 4096) :
    masked key (t + 1) j = if masked key t j ≤ key (nth key ⟨t, by omega⟩) then ⊤ else masked key t j := by
  simp only [masked_le_iff key hk]
  conv_lhs => unfold masked
  rw [dif_pos (by omega)]

end Cert.Near
-- ==== Proof.Spec.lean ====
module

public import proofs.«01_k».proof.Proof.Nearest

/-! The mathematics of the operation, for one batch entry, as plain functions on the extended reals: the sixteen nearest
points of a point, the feature row of each of them, the attention weights over the channels, the pooled sum, and the
last dense layer. -/

@[expose] public section

namespace Cert.Spec

open Idealize.ShloMosaic

/-- The squared distance of the points `q` and `j`. -/
noncomputable def dist (pt : Fin 4096 → Fin 3 → EReal) (q j : Fin 4096) : EReal :=
  ∑ d, (pt q d - pt j d) * (pt q d - pt j d)

/-- The distance of `q` and `j`, with the small number that keeps the root away from zero. -/
noncomputable def norm (pt : Fin 4096 → Fin 3 → EReal) (q j : Fin 4096) : EReal :=
  Ideal.sqrt (dist pt q j + Ideal.ofBits .f32 730643660#32)

/-- The ten numbers that say where `j` lies relative to `q`: the point `q`, the point `j`, their difference, their
distance. -/
noncomputable def enc (pt : Fin 4096 → Fin 3 → EReal) (q j : Fin 4096) (k : Fin 10) : EReal :=
  if h : k.val < 3 then pt q ⟨k.val, h⟩
  else if h : k.val - 3 < 3 then pt j ⟨k.val - 3, h⟩
  else if h : k.val - 3 - 3 < 3 then pt q ⟨k.val - 3 - 3, h⟩ - pt j ⟨k.val - 3 - 3, h⟩
  else norm pt q j

/-- The encoded position of `j` relative to `q`, after its dense layer. -/
noncomputable def loc (pt : Fin 4096 → Fin 3 → EReal) (Wl : Fin 10 → Fin 64 → EReal) (bl : Fin 64 → EReal)
    (q j : Fin 4096) (c : Fin 64) : EReal :=
  max (∑ k, enc pt q j k * Wl k c + bl c) 0

/-- The feature row of the neighbour `j` of `q`: its own features, then its encoded position. -/
noncomputable def row (pt : Fin 4096 → Fin 3 → EReal) (ft : Fin 4096 → Fin 64 → EReal) (Wl : Fin 10 → Fin 64 → EReal)
    (bl : Fin 64 → EReal) (q j : Fin 4096) (c : Fin 128) : EReal :=
  if h : c.val < 64 then ft j ⟨c.val, h⟩ else loc pt Wl bl q j ⟨c.val - 64, by omega⟩

/-- A dense layer. -/
noncomputable def dense (W : Fin 128 → Fin 128 → EReal) (b : Fin 128 → EReal) (x : Fin 128 → EReal) (c : Fin 128) : EReal :=
  ∑ k, x k * W k c + b c

/-- The values minus the greatest of them. -/
noncomputable def shifted (s : Fin 128 → EReal) (c : Fin 128) : EReal :=
  s c - Finset.univ.fold max (Ideal.ofBits .f32 4286578688#32) s

/-- The softmax of the values at channel `c`. -/
noncomputable def soft (s : Fin 128 → EReal) (c : Fin 128) : EReal :=
  Ideal.div (Ideal.exp (shifted s c)) (∑ k, Ideal.exp (shifted s k))

/-- A row weighted by the softmax of its scores. -/
noncomputable def pool (Ws : Fin 128 → Fin 128 → EReal) (bs : Fin 128 → EReal) (x : Fin 128 → EReal) (c : Fin 128) : EReal :=
  x c * soft (dense Ws bs x) c

/-- The `t`-th nearest point of `q`. -/
noncomputable def nbr (pt : Fin 4096 → Fin 3 → EReal) (q : Fin 4096) (t : Fin 16) : Fin 4096 :=
  Near.nth (dist pt q) ⟨t.val, by omega⟩

/-- The result for the point `q` at channel `c`. -/
noncomputable def out (pt : Fin 4096 → Fin 3 → EReal) (ft : Fin 4096 → Fin 64 → EReal) (Wl : Fin 10 → Fin 64 → EReal)
    (bl : Fin 64 → EReal) (Ws : Fin 128 → Fin 128 → EReal) (bs : Fin 128 → EReal) (Wf : Fin 128 → Fin 128 → EReal)
    (bf : Fin 128 → EReal) (q : Fin 4096) (c : Fin 128) : EReal :=
  max (dense Wf bf (fun k => ∑ t : Fin 16, pool Ws bs (row pt ft Wl bl q (nbr pt q t)) k) c) 0

/-- The result at an index, from the eight arrays. -/
noncomputable def result (a0 : FVec Ideal ⟨3, ![2, 4096, 3]⟩ .f32) (a1 : FVec Ideal ⟨3, ![2, 4096, 64]⟩ .f32)
    (a2 : FVec Ideal ⟨2, ![10, 64]⟩ .f32) (a3 : FVec Ideal ⟨1, ![64]⟩ .f32) (a4 : FVec Ideal ⟨2, ![128, 128]⟩ .f32)
    (a5 : FVec Ideal ⟨1, ![128]⟩ .f32) (a6 : FVec Ideal ⟨2, ![128, 128]⟩ .f32) (a7 : FVec Ideal ⟨1, ![128]⟩ .f32)
    (b : Fin 2) (q : Fin 4096) (c : Fin 128) : EReal :=
  out (fun j d => a0 (ix3 b j d)) (fun j c => a1 (ix3 b j c)) (fun k c => a2 (ix2 k c)) (fun c => a3 (ix1 c))
    (fun k c => a4 (ix2 k c)) (fun c => a5 (ix1 c)) (fun k c => a6 (ix2 k c)) (fun c => a7 (ix1 c)) q c

end Cert.Spec
-- ==== Proof.Pick.lean ====
module

public import proofs.«01_k».proof.Proof.Nearest

/-! Reading the host's top-k and its row gather at an index. -/

@[expose] public section

namespace Cert.Pick

open Idealize.ShloMosaic Cert.Near

/-- An array of a row of 4096 numbers for each of 4096 points, for two batch entries. -/
abbrev Keys : Shape := ⟨3, ![2, 4096, 4096]⟩

/-- Replacing the last coordinate of an index. -/
theorem along_last (b : Fin 2) (q j k : Fin 4096) :
    Shape.Idx.along (s := Keys) (ix3 b q j) (2 : Fin 3) k = ix3 b q k := by
  funext a
  match a with
  | ⟨0, _⟩ => rfl
  | ⟨1, _⟩ => rfl
  | ⟨2, _⟩ => rfl

/-- The sort by the keys along the last axis puts at `j` what lies at the position that the stable sort names. -/
theorem sort2_apply (x : FVec Ideal Keys .f32) (y : IVec Keys 32) (b : Fin 2) (q j : Fin 4096) :
    (Host.sort2 Keys 2 (fun l r => FloatOps.cmpfTotal .gt l.1 r.1) x y).1 (ix3 b q j)
      = x (ix3 b q (sortedFrom (before fun j => x (ix3 b q j)) j))
    ∧ (Host.sort2 Keys 2 (fun l r => FloatOps.cmpfTotal .gt l.1 r.1) x y).2 (ix3 b q j)
      = y (ix3 b q (sortedFrom (before fun j => x (ix3 b q j)) j)) := by
  have hs : (fun k k' : Fin 4096 => FloatOps.cmpfTotal (F := Ideal) (φ := .f32) .gt (x (Shape.Idx.along (s := Keys) (ix3 b q j) (2 : Fin 3) k))
      (x (Shape.Idx.along (s := Keys) (ix3 b q j) (2 : Fin 3) k')) == 1#1) = before fun j => x (ix3 b q j) := by
    funext k k'
    rw [along_last, along_last]
    rfl
  unfold Host.sort2
  rw [dif_pos (by decide)]
  constructor
  · refine (congrArg x (along_last b q j _)).trans ?_
    rw [← hs]; rfl
  · refine (congrArg y (along_last b q j _)).trans ?_
    rw [← hs]; rfl

/-- Reading the first `n` positions of a row. -/
theorem slice_first {n : ℕ} (hn : n ≤ 4096) {α : Type} (x : Keys.Idx → α)
    (h : Keys.Slices (fun _ => 0) ⟨3, ![2, 4096, n]⟩) (b : Fin 2) (q : Fin 4096) (t : Fin n) :
    extractStridedSlice ⟨3, ![2, 4096, n]⟩ (fun _ => 0) x h (ix3 b q t) = x (ix3 b q ⟨t.val, by omega⟩) := by
  refine congrArg x ?_
  funext a
  match a with
  | ⟨0, _⟩ => exact Fin.ext (Nat.zero_add _)
  | ⟨1, _⟩ => exact Fin.ext (Nat.zero_add _)
  | ⟨2, _⟩ => exact Fin.ext (Nat.zero_add _)

/-- The position that top-k names at `t` is the one that the stable sort puts there. -/
theorem topK_pos {n : ℕ} (hn : n ≤ 4096) (x : FVec Ideal Keys .f32)
    (h : Keys.Slices (fun _ => 0) ⟨3, ![2, 4096, n]⟩) (b : Fin 2) (q : Fin 4096) (t : Fin n) :
    (Host.topK ⟨3, ![2, 4096, n]⟩ 2 (FloatOps.cmpfTotal .gt) x h).2 (ix3 b q t)
      = BitVec.ofNat 32 (sortedFrom (before fun j => x (ix3 b q j)) ⟨t.val, by omega⟩).val := by
  refine (slice_first hn (Host.sort2 Keys 2 (fun l r => FloatOps.cmpfTotal .gt l.1 r.1) x
    (fun i => if hd : 2 < Keys.rank then iotaInDim Keys 32 ⟨2, hd⟩ i else 0#32)).2 h b q t).trans ?_
  refine (sort2_apply x _ b q _).2.trans ?_
  rfl

/-- The value that top-k names at `t` is the one at that position. -/
theorem topK_val {n : ℕ} (hn : n ≤ 4096) (x : FVec Ideal Keys .f32)
    (h : Keys.Slices (fun _ => 0) ⟨3, ![2, 4096, n]⟩) (b : Fin 2) (q : Fin 4096) (t : Fin n) :
    (Host.topK ⟨3, ![2, 4096, n]⟩ 2 (FloatOps.cmpfTotal .gt) x h).1 (ix3 b q t)
      = x (ix3 b q (sortedFrom (before fun j => x (ix3 b q j)) ⟨t.val, by omega⟩)) := by
  refine (slice_first hn (Host.sort2 Keys 2 (fun l r => FloatOps.cmpfTotal .gt l.1 r.1) x
    (fun i => if hd : 2 < Keys.rank then iotaInDim Keys 32 ⟨2, hd⟩ i else 0#32)).1 h b q t).trans ?_
  exact (sort2_apply x _ b q _).1

/-- The dimension numbers of the gather that takes for each point its sixteen neighbours' rows of `D` numbers. -/
abbrev rowDims (D : ℕ) (wf : GatherDims.WF ⟨3, ![2, 4096, D]⟩ ⟨4, ![2, 4096, 16, 1]⟩ ⟨4, ![2, 4096, 16, D]⟩ [3] [1] [0] [1] [0] 3 ![1, 1, D]) :
    GatherDims ⟨3, ![2, 4096, D]⟩ ⟨4, ![2, 4096, 16, 1]⟩ ⟨4, ![2, 4096, 16, D]⟩ where
  offsetDims := [3]
  collapsedSliceDims := [1]
  operandBatchingDims := [0]
  startIndicesBatchingDims := [0]
  startIndexMap := [1]
  indexVectorDim := 3
  sliceSizes := ![1, 1, D]
  wf := wf

/-- That gather reads, at the neighbour's index `k`, row `k` of the same batch entry. -/
theorem gather_rows {D : ℕ} (wf : GatherDims.WF ⟨3, ![2, 4096, D]⟩ ⟨4, ![2, 4096, 16, 1]⟩ ⟨4, ![2, 4096, 16, D]⟩ [3] [1] [0] [1] [0] 3 ![1, 1, D])
    {α : Type} (x : (⟨3, ![2, 4096, D]⟩ : Shape).Idx → α) (idx : IVec ⟨4, ![2, 4096, 16, 1]⟩ 32)
    (b : Fin 2) (q : Fin 4096) (t : Fin 16) (d : Fin D) (k : Fin 4096) (hk : idx (ix4 b q t 0) = BitVec.ofNat 32 k.val) :
    Host.gather (rowDims D wf) x idx (ix4 b q t d) = x (ix3 b k d) := by
  unfold Host.gather
  congr 1
  funext a
  refine Fin.ext ?_
  show (rowDims D wf).start _ idx a + (rowDims D wf).batchCoord _ a + (rowDims D wf).offCoord _ a = _
  have h01 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h01 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.add_zero, Nat.zero_add]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (rowDims D wf).startIndexMap from List.mem_singleton.mpr rfl)]
    have hsi : (rowDims D wf).siIdx (ix4 b q t d) ⟨List.idxOf (1 : Fin 3) (rowDims D wf).startIndexMap,
        List.idxOf_lt_length_iff.2 (List.mem_singleton.mpr rfl)⟩ = ix4 b q t 0 := by
      funext c; refine Fin.ext ?_
      match c with
      | ⟨0, _⟩ => rfl
      | ⟨1, _⟩ => rfl
      | ⟨2, _⟩ => rfl
      | ⟨3, _⟩ => rfl
    rw [hsi, hk]
    have : (BitVec.ofNat 32 k.val).toInt.toNat = k.val := by
      rw [BitVec.toInt_eq_toNat_cond]
      have := k.isLt
      simp only [BitVec.toNat_ofNat]
      omega
    rw [this]
    show min k.val (4096 - 1) = k.val
    have := k.isLt
    omega
  · rw [GatherDims.batchCoord_eq_zero _ _ _ (fun h => by simp at h)]
    unfold GatherDims.start
    rw [dif_neg (fun h => by simp at h)]
    unfold GatherDims.offCoord
    rw [dif_pos ((GatherDims.mem_sKept _ _).mpr ⟨fun h => by simp at h, fun h => by simp at h⟩)]
    simp only [Nat.add_zero, Nat.zero_add]
    rfl

/-- The maximum over the last of four axes, at an index. -/
theorem max_last {n0 n1 n2 n3 : ℕ} (x : FVec Ideal ⟨4, ![n0, n1, n2, n3]⟩ .f32) {u : Shape} (init : FVec Ideal u .f32)
    (h : (⟨4, ![n0, n1, n2, n3]⟩ : Shape).ReducesTo [3] ⟨3, ![n0, n1, n2]⟩) (hu : 0 < u.numel)
    (b : Fin n0) (q : Fin n1) (t : Fin n2) :
    Host.reduce FloatOps.maximumf x init h hu (ix3 b q t)
      = Finset.univ.fold max (init (Shape.Idx.first hu)) fun k : Fin n3 => x (ix4 b q t k) :=
  (Host.reduce_eq_fold _ x init h hu _).trans (h.fold_fiber_r4_a3 _ max _ x)

end Cert.Pick
-- ==== Proof.Pre.lean ====
module

public import proofs.«01_k».proof.Proof.PreFacts
public import proofs.«01_k».proof.Proof.Spec
public import proofs.«01_k».proof.Proof.Pick
public import Idealize.ShloMosaic.Lib.Pointwise
public import Idealize.ShloMosaic.Lib.IdealHost

/-! What the precondition says: no feature is plus infinity, three rows of the first weight matrix are finite, and the
seventeen nearest points of every point lie at different distances, which makes the points finite too. -/

@[expose] public section

set_option maxRecDepth 16384

open Idealize.ShloMosaic Cert.Pre_bounded_and_apart

namespace Cert.Pre

attribute [local instance] Cert.Pre_bounded_and_apart.facts

variable (a0 : FVec Ideal S2x4096x3 .f32) (a1 : FVec Ideal S2x4096x64 .f32) (a2 : FVec Ideal S10x64 .f32) (a3 : FVec Ideal S64 .f32)
  (a4 : FVec Ideal S128x128 .f32) (a5 : FVec Ideal S128 .f32) (a6 : FVec Ideal S128x128 .f32) (a7 : FVec Ideal S128 .f32)

/-- A number is finite: it is neither plus nor minus infinity. -/
def Finite (x : EReal) : Prop := x ≠ ⊤ ∧ x ≠ ⊥

/-- A finite number is a real one. -/
theorem Finite.eq {x : EReal} (h : Finite x) : x = (x.toReal : EReal) := (EReal.coe_toReal h.1 h.2).symm

/-- The pattern of plus infinity. -/
theorem inf_bits : Ideal.ofBits .f32 2139095040#32 = ⊤ := by
  simp [Ideal.ofBits, Ideal.ieee]

/-- What it means that the comparison with plus infinity comes out as one. -/
theorem finite_of_cmp (x : EReal) (h : BitVec.ofBool (decide ((FloatOps.absf (F := Ideal) (φ := .f32) x : EReal) < Ideal.ofBits .f32 2139095040#32)) = 1#1) : Finite x := by
  rw [inf_bits] at h
  have h' : (FloatOps.absf (F := Ideal) (φ := .f32) x : EReal) < ⊤ := by
    by_contra hn
    rw [decide_eq_false hn] at h
    exact absurd h (by decide)
  have hx : max x (-x) < ⊤ := h'
  rw [max_lt_iff] at hx
  refine ⟨hx.1.ne, ?_⟩
  rintro rfl
  simp at hx

/-- What it means that a number compares as less than plus infinity. -/
theorem bounded_of_cmp (x : EReal) (h : BitVec.ofBool (decide (x < Ideal.ofBits .f32 2139095040#32)) = 1#1) : x ≠ ⊤ := by
  rw [inf_bits] at h
  by_contra hn
  rw [decide_eq_false (by simp [hn])] at h
  exact absurd h (by decide)

/-- No feature is plus infinity. -/
theorem features (h : (fn a0 a1 a2 a3 a4 a5 a6 a7).1 = fun _ => 1#1) (b : Fin 2) (q : Fin 4096) (d : Fin 64) :
    a1 (ix3 b q d) ≠ (⊤ : EReal) := by
  have := congrFun h (ix3 b q d)
  revert this
  pointwise [fn]
  exact bounded_of_cmp _

/-- The rows of the first weight matrix that multiply the differences are finite. -/
theorem weights (h : (fn a0 a1 a2 a3 a4 a5 a6 a7).2.1 = fun _ => 1#1) (k : Fin 3) (c : Fin 64) :
    Finite (a2 (ix2 ⟨6 + k.val, by omega⟩ c)) := by
  have := congrFun h (ix2 k c)
  revert this
  pointwise [fn]
  exact finite_of_cmp _

/-- The negated squared distances, as the precondition computes them. -/
theorem negdist (b : Fin 2) (q j : Fin 4096) :
    Host.negf (Host.reduceAdd (mulf
        (subf (broadcastInDim S2x4096x4096x3 ![0, 1, 2, 3] Facts.bcast_S2x4096x1x3_S2x4096x4096x3_0_1_2_3 (broadcastInDim S2x4096x1x3 ![0, 1, 3] Facts.bcast_S2x4096x3_S2x4096x1x3_0_1_3 a0))
          (broadcastInDim S2x4096x4096x3 ![0, 1, 2, 3] Facts.bcast_S2x1x4096x3_S2x4096x4096x3_0_1_2_3 (broadcastInDim S2x1x4096x3 ![0, 2, 3] Facts.bcast_S2x4096x3_S2x1x4096x3_0_2_3 a0)))
        (subf (broadcastInDim S2x4096x4096x3 ![0, 1, 2, 3] Facts.bcast_S2x4096x1x3_S2x4096x4096x3_0_1_2_3 (broadcastInDim S2x4096x1x3 ![0, 1, 3] Facts.bcast_S2x4096x3_S2x4096x1x3_0_1_3 a0))
          (broadcastInDim S2x4096x4096x3 ![0, 1, 2, 3] Facts.bcast_S2x1x4096x3_S2x4096x4096x3_0_1_2_3 (broadcastInDim S2x1x4096x3 ![0, 2, 3] Facts.bcast_S2x4096x3_S2x1x4096x3_0_2_3 a0))))
      (constant (F := Ideal) S_ .f32 0#32) Facts.reducesTo_S2x4096x4096x3_S2x4096x4096_d3 Facts.h_S_) (ix3 b q j)
    = -Spec.dist (fun j d => a0 (ix3 b j d)) q j := by
  pointwise
  rfl

/-- The values of top-k of negated keys, from the keys in growing order. -/
theorem near_val (b : Fin 2) (q : Fin 4096) (N : FVec Ideal S2x4096x4096 .f32) (D : Fin 4096 → EReal) (h : S2x4096x4096.Slices (fun _ => 0) S2x4096x17)
    (hN : ∀ j, N (ix3 b q j) = -D j) (n : Fin 17) :
    (Host.topK S2x4096x17 2 (FloatOps.cmpfTotal .gt) N h).1 (ix3 b q n) = -D (Near.nth D ⟨n.val, by omega⟩) := by
  refine (Pick.topK_val (by omega) N h b q n).trans ?_
  have hf : (fun j => N (ix3 b q j)) = fun j => -D j := funext hN
  rw [hf]
  exact hN _

/-- The seventeen nearest points of every point lie at different distances. -/
theorem apart (h : (fn a0 a1 a2 a3 a4 a5 a6 a7).2.2 = fun _ => 1#1) (b : Fin 2) (q : Fin 4096) :
    Near.Apart (Spec.dist (fun j d => a0 (ix3 b j d)) q) := by
  intro t
  have := congrFun h (ix3 b q t)
  revert this
  pointwise [fn]
  rw [near_val b q _ _ _ (negdist a0 b q), near_val b q _ _ _ (negdist a0 b q)]
  intro h
  have h' : -Spec.dist (fun j d => a0 (ix3 b j d)) q (Near.nth (Spec.dist (fun j d => a0 (ix3 b j d)) q) ⟨1 + t.val, by omega⟩)
      < -Spec.dist (fun j d => a0 (ix3 b j d)) q (Near.nth (Spec.dist (fun j d => a0 (ix3 b j d)) q) ⟨t.val, by omega⟩) := by
    by_contra hn
    rw [decide_eq_false hn] at h
    exact absurd h (by decide)
  have h2 := EReal.neg_lt_neg_iff.mp h'
  simp only [Nat.add_comm 1] at h2
  exact h2

/-- A square is at least zero. -/
theorem sq_nonneg (x : EReal) : 0 ≤ x * x := by
  induction x with
  | bot => simp
  | top => simp
  | coe r => exact_mod_cast mul_self_nonneg r

/-- The square of a difference whose first number is infinite is plus infinity. -/
theorem sq_top {x y : EReal} (h : ¬ Finite x) : (x - y) * (x - y) = ⊤ := by
  have hx : x = ⊤ ∨ x = ⊥ := by
    by_contra hn
    push Not at hn
    exact h hn
  rcases hx with rfl | rfl
  · by_cases hy : y = ⊤
    · subst hy
      simp
    · rw [EReal.top_sub hy]
      simp
  · simp

/-- From a point with an infinite coordinate every point is infinitely far away. -/
theorem dist_top (pt : Fin 4096 → Fin 3 → EReal) (q j : Fin 4096) (d : Fin 3) (h : ¬ Finite (pt q d)) : Spec.dist pt q j = ⊤ := by
  have h1 := Finset.single_le_sum (f := fun d => (pt q d - pt j d) * (pt q d - pt j d)) (fun i _ => sq_nonneg _) (Finset.mem_univ d)
  have h2 : (pt q d - pt j d) * (pt q d - pt j d) = ⊤ := sq_top h
  exact top_le_iff.mp (h2 ▸ h1)

/-- The points are finite: otherwise the nearest points of one of them would all be equally far away. -/
theorem points (h : (fn a0 a1 a2 a3 a4 a5 a6 a7).2.2 = fun _ => 1#1) (b : Fin 2) (q : Fin 4096) (d : Fin 3) :
    Finite (a0 (ix3 b q d)) := by
  by_contra hn
  have ht := dist_top (fun j d => a0 (ix3 b j d)) q
  have ha := apart a0 a1 a2 a3 a4 a5 a6 a7 h b q 0
  rw [ht _ d hn, ht _ d hn] at ha
  exact lt_irrefl _ ha

end Cert.Pre
-- ==== Proof.Dense.lean ====
module

public import proofs.«01_k».proof.Proof.Pre

/-! The kernel's way of writing the first dense layer: the rows of the weight matrix that multiply the point, its
neighbour and their difference are regrouped into those that multiply the point and those that multiply the neighbour. -/

@[expose] public section

namespace Cert.Dense

open Idealize.ShloMosaic Cert.Pre

/-- A real number times a sum of which one part is real. -/
theorem mul_add_real (p r : ℝ) (u : EReal) : (p : EReal) * (u + (r : EReal)) = (p : EReal) * u + ((p * r : ℝ) : EReal) := by
  induction u with
  | bot =>
    rw [EReal.bot_add]
    rcases lt_trichotomy p 0 with h | h | h
    · rw [EReal.coe_mul_bot_of_neg h, EReal.top_add_coe]
    · subst h
      simp
    · rw [EReal.coe_mul_bot_of_pos h, EReal.bot_add]
  | top =>
    rw [EReal.top_add_coe]
    rcases lt_trichotomy p 0 with h | h | h
    · rw [EReal.coe_mul_top_of_neg h, EReal.bot_add]
    · subst h
      simp
    · rw [EReal.coe_mul_top_of_pos h, EReal.top_add_coe]
  | coe u =>
    norm_cast
    ring

/-- A real number times a difference of which the second part is real. -/
theorem mul_sub_real (a r : ℝ) (v : EReal) : (a : EReal) * (v - (r : EReal)) = (a : EReal) * v + ((-(a * r) : ℝ) : EReal) := by
  have h := mul_add_real a (-r) v
  rw [EReal.coe_neg, ← sub_eq_add_neg] at h
  rw [h, mul_neg]

/-- A real difference times a real number. -/
theorem sub_mul_real (p a r : ℝ) : ((p : EReal) - (a : EReal)) * (r : EReal) = ((p * r : ℝ) : EReal) + ((-(a * r) : ℝ) : EReal) := by
  norm_cast
  ring

/-- The regrouping, for real points and real weights of the difference; the other weights may be infinite. -/
theorem regroup (p a : Fin 3 → ℝ) (u v : Fin 3 → EReal) (r : Fin 3 → ℝ) :
    (∑ d : Fin 3, (p d : EReal) * (u d + (r d : EReal))) + ∑ d : Fin 3, (a d : EReal) * (v d - (r d : EReal))
    = (p 0 : EReal) * u 0 + (p 1 : EReal) * u 1 + (p 2 : EReal) * u 2 + (a 0 : EReal) * v 0 + (a 1 : EReal) * v 1 + (a 2 : EReal) * v 2
      + ((p 0 : EReal) - (a 0 : EReal)) * (r 0 : EReal) + ((p 1 : EReal) - (a 1 : EReal)) * (r 1 : EReal)
      + ((p 2 : EReal) - (a 2 : EReal)) * (r 2 : EReal) := by
  simp only [mul_add_real, mul_sub_real, sub_mul_real, Fin.sum_univ_three]
  ac_rfl

/-- The regrouped layer is the layer. -/
theorem loc_eq (pt : Fin 4096 → Fin 3 → EReal) (Wl : Fin 10 → Fin 64 → EReal) (bl : Fin 64 → EReal) (q j : Fin 4096) (c : Fin 64)
    (hp : ∀ j d, Finite (pt j d)) (hw : ∀ k : Fin 3, Finite (Wl ⟨6 + k.val, by omega⟩ c)) :
    max ((∑ d : Fin 3, pt q d * (Wl ⟨d.val, by omega⟩ c + Wl ⟨6 + d.val, by omega⟩ c))
      + (∑ d : Fin 3, pt j d * (Wl ⟨3 + d.val, by omega⟩ c - Wl ⟨6 + d.val, by omega⟩ c))
      + Spec.norm pt q j * Wl 9 c + bl c) 0 = Spec.loc pt Wl bl q j c := by
  have h := regroup (fun d => (pt q d).toReal) (fun d => (pt j d).toReal) (fun d => Wl ⟨d.val, by omega⟩ c)
    (fun d => Wl ⟨3 + d.val, by omega⟩ c) (fun d => (Wl ⟨6 + d.val, by omega⟩ c).toReal)
  simp only [← (hp _ _).eq, ← (hw _).eq] at h
  rw [h]
  unfold Spec.loc
  rw [Fin.sum_univ_castSucc, Fin.sum_univ_castSucc, Fin.sum_univ_eight]
  rfl

end Cert.Dense
-- ==== Proof.Kern.lean ====
module

public import proofs.«01_k».proof.Proof.Gen.KernelIdeal.Value
public import proofs.«01_k».proof.Proof.Dense
public import Idealize.ShloMosaic.Lib.Pointwise

/-! The kernel's steps read at an index: the distances, the smallest of a row, the marking of its position and the
masking of it, the dense layers of one neighbour, the weighted sum, and the last layer. -/

@[expose] public section

set_option maxRecDepth 16384

open Idealize.ShloMosaic Cert.KernelIdeal Cert.KernelIdeal.Gen Idealize.ShloMosaic.Pointwise

namespace Cert.Kern

attribute [local instance] Cert.KernelIdeal.Gen.facts

/-- The minimum that the loop's step takes of a row is the greatest number below all of the row. -/
theorem loop_min (d : FVec Ideal S1024x4096 .f32) (q : Fin 1024) (z : Fin 1) (c : EReal) :
    c ≤ (k0_pay7 (k0_pay2 d) (k0_pay3 d) (k0_pay4 d) (k0_pay5 d) (k0_pay6 d) (ix2 q z) : EReal) ↔ ∀ j, c ≤ (d (ix2 q j) : EReal) := by
  pointwise [k0_pay7, k0_pay2, k0_pay3, k0_pay4, k0_pay5, k0_pay6]
  rw [Pre.inf_bits, Finset.le_fold_min]
  simp only [le_min_iff, Finset.mem_univ, forall_true_left, le_top, true_and]
  constructor
  · intro h j
    obtain ⟨⟨⟨⟨⟨h0, h1⟩, ⟨h2, h3⟩⟩, ⟨⟨h4, h5⟩, ⟨h6, h7⟩⟩⟩, ⟨⟨⟨h8, h9⟩, ⟨h10, h11⟩⟩, ⟨⟨h12, h13⟩, ⟨h14, h15⟩⟩⟩⟩, ⟨⟨⟨⟨h16, h17⟩, ⟨h18, h19⟩⟩, ⟨⟨h20, h21⟩, ⟨h22, h23⟩⟩⟩, ⟨⟨⟨h24, h25⟩, ⟨h26, h27⟩⟩, ⟨⟨h28, h29⟩, ⟨h30, h31⟩⟩⟩⟩⟩ := h ⟨j.val % 128, Nat.mod_lt _ (by omega)⟩
    have key : ∀ (n : ℕ) (hn : n < 4096), j.val = n → c ≤ d (ix2 q ⟨n, hn⟩) → c ≤ d (ix2 q j) := fun n hn e h => by
      subst e; exact h
    have hj := j.isLt
    obtain ⟨k, hk⟩ : ∃ k, k = j.val / 128 := ⟨_, rfl⟩
    have hk' : k < 32 := by omega
    interval_cases k
    · exact key _ _ (by show j.val = j.val % 128; omega) h0
    · exact key _ _ (by show j.val = 128 + j.val % 128; omega) h1
    · exact key _ _ (by show j.val = 256 + j.val % 128; omega) h2
    · exact key _ _ (by show j.val = 384 + j.val % 128; omega) h3
    · exact key _ _ (by show j.val = 512 + j.val % 128; omega) h4
    · exact key _ _ (by show j.val = 640 + j.val % 128; omega) h5
    · exact key _ _ (by show j.val = 768 + j.val % 128; omega) h6
    · exact key _ _ (by show j.val = 896 + j.val % 128; omega) h7
    · exact key _ _ (by show j.val = 1024 + j.val % 128; omega) h8
    · exact key _ _ (by show j.val = 1152 + j.val % 128; omega) h9
    · exact key _ _ (by show j.val = 1280 + j.val % 128; omega) h10
    · exact key _ _ (by show j.val = 1408 + j.val % 128; omega) h11
    · exact key _ _ (by show j.val = 1536 + j.val % 128; omega) h12
    · exact key _ _ (by show j.val = 1664 + j.val % 128; omega) h13
    · exact key _ _ (by show j.val = 1792 + j.val % 128; omega) h14
    · exact key _ _ (by show j.val = 1920 + j.val % 128; omega) h15
    · exact key _ _ (by show j.val = 2048 + j.val % 128; omega) h16
    · exact key _ _ (by show j.val = 2176 + j.val % 128; omega) h17
    · exact key _ _ (by show j.val = 2304 + j.val % 128; omega) h18
    · exact key _ _ (by show j.val = 2432 + j.val % 128; omega) h19
    · exact key _ _ (by show j.val = 2560 + j.val % 128; omega) h20
    · exact key _ _ (by show j.val = 2688 + j.val % 128; omega) h21
    · exact key _ _ (by show j.val = 2816 + j.val % 128; omega) h22
    · exact key _ _ (by show j.val = 2944 + j.val % 128; omega) h23
    · exact key _ _ (by show j.val = 3072 + j.val % 128; omega) h24
    · exact key _ _ (by show j.val = 3200 + j.val % 128; omega) h25
    · exact key _ _ (by show j.val = 3328 + j.val % 128; omega) h26
    · exact key _ _ (by show j.val = 3456 + j.val % 128; omega) h27
    · exact key _ _ (by show j.val = 3584 + j.val % 128; omega) h28
    · exact key _ _ (by show j.val = 3712 + j.val % 128; omega) h29
    · exact key _ _ (by show j.val = 3840 + j.val % 128; omega) h30
    · exact key _ _ (by show j.val = 3968 + j.val % 128; omega) h31
  · intro h x
    repeat' apply And.intro
    all_goals exact h _

/-- The minimum before the loop, of a row given with its first six pieces. -/
theorem first_min_of (d : FVec Ideal S1024x4096 .f32) (q : Fin 1024) (z : Fin 1) (c : EReal) :
    c ≤ (k0_pay26 d (extractStridedSlice S1024x128 ![0, 0] d slices_S1024x4096_o0_0_S1024x128)
      (extractStridedSlice S1024x128 ![0, 128] d slices_S1024x4096_o0_128_S1024x128)
      (extractStridedSlice S1024x128 ![0, 256] d slices_S1024x4096_o0_256_S1024x128)
      (extractStridedSlice S1024x128 ![0, 384] d slices_S1024x4096_o0_384_S1024x128)
      (extractStridedSlice S1024x128 ![0, 512] d slices_S1024x4096_o0_512_S1024x128)
      (extractStridedSlice S1024x128 ![0, 640] d slices_S1024x4096_o0_640_S1024x128) (ix2 q z) : EReal) ↔ ∀ j, c ≤ (d (ix2 q j) : EReal) := by
  pointwise [k0_pay26]
  rw [Pre.inf_bits, Finset.le_fold_min]
  simp only [le_min_iff, Finset.mem_univ, forall_true_left, le_top, true_and]
  constructor
  · intro h j
    obtain ⟨⟨⟨⟨⟨h0, h1⟩, ⟨h2, h3⟩⟩, ⟨⟨h4, h5⟩, ⟨h6, h7⟩⟩⟩, ⟨⟨⟨h8, h9⟩, ⟨h10, h11⟩⟩, ⟨⟨h12, h13⟩, ⟨h14, h15⟩⟩⟩⟩, ⟨⟨⟨⟨h16, h17⟩, ⟨h18, h19⟩⟩, ⟨⟨h20, h21⟩, ⟨h22, h23⟩⟩⟩, ⟨⟨⟨h24, h25⟩, ⟨h26, h27⟩⟩, ⟨⟨h28, h29⟩, ⟨h30, h31⟩⟩⟩⟩⟩ := h ⟨j.val % 128, Nat.mod_lt _ (by omega)⟩
    have key : ∀ (n : ℕ) (hn : n < 4096), j.val = n → c ≤ d (ix2 q ⟨n, hn⟩) → c ≤ d (ix2 q j) := fun n hn e h => by
      subst e; exact h
    have hj := j.isLt
    obtain ⟨k, hk⟩ : ∃ k, k = j.val / 128 := ⟨_, rfl⟩
    have hk' : k < 32 := by omega
    interval_cases k
    · exact key _ _ (by show j.val = j.val % 128; omega) h0
    · exact key _ _ (by show j.val = 128 + j.val % 128; omega) h1
    · exact key _ _ (by show j.val = 256 + j.val % 128; omega) h2
    · exact key _ _ (by show j.val = 384 + j.val % 128; omega) h3
    · exact key _ _ (by show j.val = 512 + j.val % 128; omega) h4
    · exact key _ _ (by show j.val = 640 + j.val % 128; omega) h5
    · exact key _ _ (by show j.val = 768 + j.val % 128; omega) h6
    · exact key _ _ (by show j.val = 896 + j.val % 128; omega) h7
    · exact key _ _ (by show j.val = 1024 + j.val % 128; omega) h8
    · exact key _ _ (by show j.val = 1152 + j.val % 128; omega) h9
    · exact key _ _ (by show j.val = 1280 + j.val % 128; omega) h10
    · exact key _ _ (by show j.val = 1408 + j.val % 128; omega) h11
    · exact key _ _ (by show j.val = 1536 + j.val % 128; omega) h12
    · exact key _ _ (by show j.val = 1664 + j.val % 128; omega) h13
    · exact key _ _ (by show j.val = 1792 + j.val % 128; omega) h14
    · exact key _ _ (by show j.val = 1920 + j.val % 128; omega) h15
    · exact key _ _ (by show j.val = 2048 + j.val % 128; omega) h16
    · exact key _ _ (by show j.val = 2176 + j.val % 128; omega) h17
    · exact key _ _ (by show j.val = 2304 + j.val % 128; omega) h18
    · exact key _ _ (by show j.val = 2432 + j.val % 128; omega) h19
    · exact key _ _ (by show j.val = 2560 + j.val % 128; omega) h20
    · exact key _ _ (by show j.val = 2688 + j.val % 128; omega) h21
    · exact key _ _ (by show j.val = 2816 + j.val % 128; omega) h22
    · exact key _ _ (by show j.val = 2944 + j.val % 128; omega) h23
    · exact key _ _ (by show j.val = 3072 + j.val % 128; omega) h24
    · exact key _ _ (by show j.val = 3200 + j.val % 128; omega) h25
    · exact key _ _ (by show j.val = 3328 + j.val % 128; omega) h26
    · exact key _ _ (by show j.val = 3456 + j.val % 128; omega) h27
    · exact key _ _ (by show j.val = 3584 + j.val % 128; omega) h28
    · exact key _ _ (by show j.val = 3712 + j.val % 128; omega) h29
    · exact key _ _ (by show j.val = 3840 + j.val % 128; omega) h30
    · exact key _ _ (by show j.val = 3968 + j.val % 128; omega) h31
  · intro h x
    repeat' apply And.intro
    all_goals exact h _

/-- The minimum before the loop is the greatest number below all of the row of distances. -/
theorem first_min (v0 : Vec Ideal S1x1024x3 .f32) (v2 : Vec Ideal S1x3x4096 .f32) (q : Fin 1024) (z : Fin 1) (c : EReal) :
    c ≤ (k0_pay26 (k0_pay17 v0 v2) (k0_pay20 v0 v2) (k0_pay21 v0 v2) (k0_pay22 v0 v2) (k0_pay23 v0 v2) (k0_pay24 v0 v2) (k0_pay25 v0 v2) (ix2 q z) : EReal)
      ↔ ∀ j, c ≤ (k0_pay17 v0 v2 (ix2 q j) : EReal) :=
  first_min_of (k0_pay17 v0 v2) q z c

/-- The number written over a taken distance is plus infinity. -/
theorem big_eq : Named.named (F := Ideal) (φ := .f32) κ "big" 2137108966#32 = (⊤ : EReal) :=
  IdealRules.named_const.ideal_named_scalar _ _ _ _ rfl

/-- The loop's marking: one where the row is not above its minimum. -/
theorem loop_mark (d : FVec Ideal S1024x4096 .f32) (a b c e f : FVec Ideal S1024x128 .f32) (q : Fin 1024) (j : Fin 4096) :
    k0_pay9 d a b c e f (ix2 q j) = if (d (ix2 q j) : EReal) ≤ k0_pay7 a b c e f (ix2 q 0) then (1 : EReal) else 0 := by
  pointwise [k0_pay9, k0_pay8]

/-- The loop's masking: plus infinity where the row is not above its minimum. -/
theorem loop_mask (d : FVec Ideal S1024x4096 .f32) (a b c e f : FVec Ideal S1024x128 .f32) (q : Fin 1024) (j : Fin 4096) :
    k0_pay10 d a b c e f (ix2 q j) = if (d (ix2 q j) : EReal) ≤ k0_pay7 a b c e f (ix2 q 0) then (⊤ : EReal) else d (ix2 q j) := by
  pointwise [k0_pay10, k0_pay8]
  rw [big_eq]

/-- The marking before the loop. -/
theorem first_mark (d : FVec Ideal S1024x4096 .f32) (m : FVec Ideal S1024x1 .f32) (q : Fin 1024) (j : Fin 4096) :
    k0_pay28 d m (ix2 q j) = if (d (ix2 q j) : EReal) ≤ m (ix2 q 0) then (1 : EReal) else 0 := by
  pointwise [k0_pay28, k0_pay27]

/-- The masking before the loop. -/
theorem first_mask (d : FVec Ideal S1024x4096 .f32) (m : FVec Ideal S1024x1 .f32) (q : Fin 1024) (j : Fin 4096) :
    k0_pay29 d m (ix2 q j) = if (d (ix2 q j) : EReal) ≤ m (ix2 q 0) then (⊤ : EReal) else d (ix2 q j) := by
  pointwise [k0_pay29, k0_pay27]
  rw [big_eq]

/-- The squared distances. -/
theorem dist_at (v0 : Vec Ideal S1x1024x3 .f32) (v2 : Vec Ideal S1x3x4096 .f32) (q : Fin 1024) (j : Fin 4096) :
    k0_pay17 v0 v2 (ix2 q j) = (∑ k : Fin 3, ((v0 (ix3 0 q k) : EReal) - v2 (ix3 0 k j)) * (v0 (ix3 0 q k) - v2 (ix3 0 k j)) : EReal) := by
  rw [Fin.sum_univ_three]
  pointwise [k0_pay17, k0_pay13]

/-- The table's block. -/
theorem tab_at (v : Vec Ideal S1x4096x256 .bf16) (j : Fin 4096) (c : Fin 256) : k0_pay14 v (ix2 j c) = (v (ix3 0 j c) : EReal) := by
  pointwise [k0_pay14]

/-- The weights of the neighbour's coordinates. -/
theorem nbrw_at (v : Vec Ideal S10x64 .f32) (j : Fin 3) (c : Fin 64) :
    k0_pay15 v (ix2 j c) = ((v (ix2 ⟨3 + j.val, by omega⟩ c) : EReal) - v (ix2 ⟨6 + j.val, by omega⟩ c) : EReal) := by
  pointwise [k0_pay15]

/-- The weights of the distance. -/
theorem normw_at (v : Vec Ideal S10x64 .f32) (z : Fin 1) (c : Fin 64) : k0_pay16 v (ix2 z c) = (v (ix2 9 c) : EReal) := by
  pointwise [k0_pay16]

/-- The point's own part of the first dense layer. -/
theorem own_at (v0 : Vec Ideal S1x1024x3 .f32) (v : Vec Ideal S10x64 .f32) (q : Fin 1024) (c : Fin 64) :
    k0_pay18 v0 v (ix2 q c) = (∑ d : Fin 3, (v0 (ix3 0 q d) : EReal) * (v (ix2 ⟨d.val, by omega⟩ c) + v (ix2 ⟨6 + d.val, by omega⟩ c)) : EReal) := by
  pointwise [k0_pay18, k0_pay13]

/-- The weighted sum starts at zero. -/
theorem zero_at (q : Fin 1024) (c : Fin 128) : k0_pay19 (F := Ideal) (ix2 q c) = (0 : EReal) := by
  pointwise [k0_pay19]

/-- The shifted scores of a neighbour's feature row. -/
theorem shifted_at (v5 : FVec Ideal S4096x256 .bf16) (v12 : FVec Ideal S3x64 .f32) (v13 : FVec Ideal S1x64 .f32) (v36 : FVec Ideal S1024x64 .f32)
    (oh : FVec Ideal S1024x4096 .bf16) (m : FVec Ideal S1024x1 .f32) (b0 : Vec Ideal S64 .f32) (w : Vec Ideal S128x128 .f32) (b : Vec Ideal S128 .f32)
    (q : Fin 1024) (c : Fin 128) :
    k0_pay12 v5 v12 v13 v36 oh m b0 w b (ix2 q c)
      = Spec.shifted (Spec.dense (fun k c => w (ix2 k c)) (fun c => b (ix1 c)) (fun k => k0_pay11 v5 v12 v13 v36 oh m b0 (ix2 q k))) c := by
  unfold k0_pay12
  generalize k0_pay11 v5 v12 v13 v36 oh m b0 = x
  pointwise
  rfl

/-- The exponentials of the shifted scores of the last neighbour's feature row. -/
theorem last_exp_at (v5 : FVec Ideal S4096x256 .bf16) (v12 : FVec Ideal S3x64 .f32) (v13 : FVec Ideal S1x64 .f32) (v36 : FVec Ideal S1024x64 .f32)
    (oh : FVec Ideal S1024x4096 .bf16) (m : FVec Ideal S1024x1 .f32) (b0 : Vec Ideal S64 .f32) (w : Vec Ideal S128x128 .f32) (b : Vec Ideal S128 .f32)
    (q : Fin 1024) (c : Fin 128) :
    k0_pay32 v5 v12 v13 v36 oh m b0 w b (ix2 q c)
      = Ideal.exp (Spec.shifted (Spec.dense (fun k c => w (ix2 k c)) (fun c => b (ix1 c)) (fun k => k0_pay31 v5 v12 v13 v36 oh m b0 (ix2 q k))) c) := by
  unfold k0_pay32
  generalize k0_pay31 v5 v12 v13 v36 oh m b0 = x
  pointwise
  rfl

/-- The last neighbour's feature row is computed as those before it are. -/
theorem last_row_eq (v5 : FVec Ideal S4096x256 .bf16) (v12 : FVec Ideal S3x64 .f32) (v13 : FVec Ideal S1x64 .f32) (v36 : FVec Ideal S1024x64 .f32)
    (oh : FVec Ideal S1024x4096 .bf16) (m : FVec Ideal S1024x1 .f32) (b0 : Vec Ideal S64 .f32) :
    k0_pay31 v5 v12 v13 v36 oh m b0 = k0_pay11 v5 v12 v13 v36 oh m b0 := rfl

/-- A neighbour's feature row, weighted, added to the sum. -/
theorem add_at (a x s : FVec Ideal S1024x128 .f32) (q : Fin 1024) (c : Fin 128) :
    k0_pay30 a x s (ix2 q c) = ((a (ix2 q c) : EReal) + x (ix2 q c) * Ideal.div (Ideal.exp (s (ix2 q c))) (∑ k : Fin 128, Ideal.exp (s (ix2 q k))) : EReal) := by
  pointwise [k0_pay30]

/-- The last neighbour's weighted row and the last dense layer. -/
theorem last_at (a x y : FVec Ideal S1024x128 .f32) (w : Vec Ideal S128x128 .f32) (b : Vec Ideal S128 .f32) (q : Fin 1024) (c : Fin 128) :
    k0_pay1 a x y w b (ix3 0 q c)
      = (max (∑ k : Fin 128, ((a (ix2 q k) : EReal) + x (ix2 q k) * Ideal.div (y (ix2 q k)) (∑ k' : Fin 128, (y (ix2 q k') : EReal))) * w (ix2 k c) + b (ix1 c)) 0 : EReal) := by
  pointwise [k0_pay1]

/-- The feature row of the point that the marking selects. -/
theorem row_at (v5 : FVec Ideal S4096x256 .bf16) (v12 : FVec Ideal S3x64 .f32) (v13 : FVec Ideal S1x64 .f32) (v36 : FVec Ideal S1024x64 .f32)
    (oh : FVec Ideal S1024x4096 .bf16) (m : FVec Ideal S1024x1 .f32) (b0 : Vec Ideal S64 .f32) (q : Fin 1024) (c : Fin 128) (n : Fin 4096)
    (hoh : ∀ j, oh (ix2 q j) = if j = n then (1 : EReal) else 0) (hlo : ∀ k : Fin 128, (v5 (ix2 n ⟨k.val, by omega⟩) : EReal) + v5 (ix2 n ⟨128 + k.val, by omega⟩) = v5 (ix2 n ⟨k.val, by omega⟩)) :
    k0_pay11 v5 v12 v13 v36 oh m b0 (ix2 q c)
      = if h : c.val < 64 then (v5 (ix2 n ⟨c.val, by omega⟩) : EReal)
        else max ((v36 (ix2 q ⟨c.val - 64, by omega⟩) : EReal)
          + (∑ d : Fin 3, (v5 (ix2 n ⟨64 + d.val, by omega⟩) : EReal) * v12 (ix2 d ⟨c.val - 64, by omega⟩))
          + Ideal.sqrt (m (ix2 q 0) + Ideal.ofBits .f32 730643660#32) * v13 (ix2 0 ⟨c.val - 64, by omega⟩) + b0 (ix1 ⟨c.val - 64, by omega⟩)) 0 := by
  have sel : ∀ k : Fin 256, (∑ j : Fin 4096, (oh (ix2 q j) : EReal) * v5 (ix2 j k)) = v5 (ix2 n k) := fun k => by
    rw [Finset.sum_eq_single n]
    · rw [hoh, if_pos rfl, one_mul]
    · intro j _ hj
      rw [hoh, if_neg hj, zero_mul]
    · intro h; exact absurd (Finset.mem_univ _) h
  pointwise [k0_pay11]
  simp only [sel]
  have hlo' : ∀ k (hk : k < 128), (v5 (ix2 n ⟨k, by omega⟩) : EReal) + v5 (ix2 n ⟨128 + k, by omega⟩) = v5 (ix2 n ⟨k, by omega⟩) := fun k hk => hlo ⟨k, hk⟩
  by_cases h : c.val < 64
  · rw [dif_pos h, dif_pos h, hlo' _ (by omega)]
  · rw [dif_neg h, dif_neg h]
    refine congrArg (max · 0) (congrArg (· + _) (congrArg (· + _) (congrArg (_ + ·) ?_)))
    refine Finset.sum_congr rfl fun x _ => ?_
    exact congrArg (· * _) (hlo' (64 + x.val) (by omega))

end Cert.Kern
-- ==== Proof.Loop.lean ====
module

public import proofs.«01_k».proof.Proof.Kern

/-! What the kernel leaves in its output block, as one value: the steps before the loop, the loop's fifteen trips on
its carried value, and the steps after it. -/

@[expose] public section

set_option maxRecDepth 16384

noncomputable section

open Idealize.ShloMosaic Cert.KernelIdeal Cert.KernelIdeal.Gen Idealize.ShloMosaic.TcCoe Idealize.ShloMosaic.Tactic

namespace Cert.Kern

attribute [local instance] Cert.KernelIdeal.Gen.facts

/-- The carried value of the loop: the marking, the minimum, the masked distances and the weighted sum. -/
abbrev Carry := FVec Ideal S1024x4096 .bf16 × FVec Ideal S1024x1 .f32 × FVec Ideal S1024x4096 .f32 × FVec Ideal S1024x128 .f32

/-- One trip of the loop on its carried value. -/
def tripV (v5 : FVec Ideal S4096x256 .bf16) (v12 : FVec Ideal S3x64 .f32) (v13 : FVec Ideal S1x64 .f32) (v36 : FVec Ideal S1024x64 .f32)
    (b0 : Vec Ideal S64 .f32) (w : Vec Ideal S128x128 .f32) (b : Vec Ideal S128 .f32) (s : Carry) : Carry :=
  (k0_pay9 s.2.2.1 (k0_pay2 s.2.2.1) (k0_pay3 s.2.2.1) (k0_pay4 s.2.2.1) (k0_pay5 s.2.2.1) (k0_pay6 s.2.2.1),
    k0_pay7 (k0_pay2 s.2.2.1) (k0_pay3 s.2.2.1) (k0_pay4 s.2.2.1) (k0_pay5 s.2.2.1) (k0_pay6 s.2.2.1),
    k0_pay10 s.2.2.1 (k0_pay2 s.2.2.1) (k0_pay3 s.2.2.1) (k0_pay4 s.2.2.1) (k0_pay5 s.2.2.1) (k0_pay6 s.2.2.1),
    k0_pay30 s.2.2.2 (k0_pay11 v5 v12 v13 v36 s.1 s.2.1 b0) (k0_pay12 v5 v12 v13 v36 s.1 s.2.1 b0 w b))

/-- The carried value before trip `n`. -/
def iterV (v5 : FVec Ideal S4096x256 .bf16) (v12 : FVec Ideal S3x64 .f32) (v13 : FVec Ideal S1x64 .f32) (v36 : FVec Ideal S1024x64 .f32)
    (b0 : Vec Ideal S64 .f32) (w : Vec Ideal S128x128 .f32) (b : Vec Ideal S128 .f32) (s : Carry) : ℕ → Carry
  | 0 => s
  | n + 1 => tripV v5 v12 v13 v36 b0 w b (iterV v5 v12 v13 v36 b0 w b s n)

/-- Zero offsets of one axis. -/
theorem hz1 : (![0] : Fin 1 → Nat) = fun _ => 0 := funext fun a => by fin_cases a; rfl

/-- Zero offsets of two axes. -/
theorem hz2 : (![0, 0] : Fin 2 → Nat) = fun _ => 0 := funext fun a => by fin_cases a <;> rfl

/-- Zero offsets of three axes. -/
theorem hz3 : (![0, 0, 0] : Fin 3 → Nat) = fun _ => 0 := funext fun a => by fin_cases a <;> rfl

/-- A trip of the printed loop is a trip on the carried value. -/
theorem trip_eq (𝒱 : Variants) (c : Dev nD) (bd : Option 𝒱.V) (i : grid0.Coords) (arg2 : Memref sig .tc .vmem S1x1024x3 .f32) (harg2 : arg2.IsWhole) (arg3 : Memref sig .tc .vmem S1x3x4096 .f32) (harg3 : arg3.IsWhole) (arg4 : Memref sig .tc .vmem S1x4096x256 .bf16) (harg4 : arg4.IsWhole) (arg5 : Memref sig .tc .vmem S10x64 .f32) (harg5 : arg5.IsWhole) (arg6 : Memref sig .tc .vmem S64 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x128 .f32) (harg9 : arg9.IsWhole) (arg10 : Memref sig .tc .vmem S128 .f32) (harg10 : arg10.IsWhole) (arg11 : Memref sig .tc .vmem S1x1024x128 .f32) (harg11 : arg11.IsWhole)
    (v5 : FVec Ideal S4096x256 .bf16) (v12 : FVec Ideal S3x64 .f32) (v13 : FVec Ideal S1x64 .f32) (v35 : FVec Ideal S1024x4096 .f32) (v36 : FVec Ideal S1024x64 .f32) (v37 : FVec Ideal S1024x128 .f32) (v102 : FVec Ideal S1024x1 .f32)
    (x4 : Vec Ideal S64 .f32) (x5 : Vec Ideal S128x128 .f32) (x6 : Vec Ideal S128 .f32) (k : Fin k0_t1_loop.trips) (s : Carry) :
    tripR_k0_t1 (F := Ideal) 𝒱 c bd i arg2 harg2 arg3 harg3 arg4 harg4 arg5 harg5 arg6 harg6 arg7 harg7 arg8 harg8 arg9 harg9 arg10 harg10 arg11 harg11 v5 v12 v13 v35 v36 v37 v102 (harg6.unread x4) (harg7.unread x5) (harg8.unread x6) k s
      = tripV v5 v12 v13 v36 x4 x5 x6 s := by
  unfold tripR_k0_t1 trip_k0_t1
  dsimp only
  sl_unfold_words
  unfold tripV
  simp only [View.readAt_eq_ld, harg6.read_unread, harg7.read_unread, harg8.read_unread, View.ld_unit_zero (S := S64) hz1,
    View.ld_unit_zero (S := S128) hz1, View.ld_unit_zero (S := S128x128) hz2]
  rfl

/-- The carried value of the printed loop before trip `n`. -/
theorem state_eq (𝒱 : Variants) (c : Dev nD) (bd : Option 𝒱.V) (i : grid0.Coords) (arg2 : Memref sig .tc .vmem S1x1024x3 .f32) (harg2 : arg2.IsWhole) (arg3 : Memref sig .tc .vmem S1x3x4096 .f32) (harg3 : arg3.IsWhole) (arg4 : Memref sig .tc .vmem S1x4096x256 .bf16) (harg4 : arg4.IsWhole) (arg5 : Memref sig .tc .vmem S10x64 .f32) (harg5 : arg5.IsWhole) (arg6 : Memref sig .tc .vmem S64 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x128 .f32) (harg9 : arg9.IsWhole) (arg10 : Memref sig .tc .vmem S128 .f32) (harg10 : arg10.IsWhole) (arg11 : Memref sig .tc .vmem S1x1024x128 .f32) (harg11 : arg11.IsWhole)
    (v5 : FVec Ideal S4096x256 .bf16) (v12 : FVec Ideal S3x64 .f32) (v13 : FVec Ideal S1x64 .f32) (v35 : FVec Ideal S1024x4096 .f32) (v36 : FVec Ideal S1024x64 .f32) (v37 : FVec Ideal S1024x128 .f32) (v102 : FVec Ideal S1024x1 .f32)
    (x4 : Vec Ideal S64 .f32) (x5 : Vec Ideal S128x128 .f32) (x6 : Vec Ideal S128 .f32) (s : Carry) (n : ℕ) (hn : n ≤ k0_t1_loop.trips) :
    st_k0_t1 (F := Ideal) 𝒱 c bd i arg2 harg2 arg3 harg3 arg4 harg4 arg5 harg5 arg6 harg6 arg7 harg7 arg8 harg8 arg9 harg9 arg10 harg10 arg11 harg11 v5 v12 v13 v35 v36 v37 v102 (harg6.unread x4) (harg7.unread x5) (harg8.unread x6) s n
      = iterV v5 v12 v13 v36 x4 x5 x6 s n := by
  induction n with
  | zero => exact st_k0_t1_zero ..
  | succ n ih =>
    refine (st_k0_t1_succ 𝒱 c bd i arg2 harg2 arg3 harg3 arg4 harg4 arg5 harg5 arg6 harg6 arg7 harg7 arg8 harg8 arg9 harg9 arg10 harg10 arg11 harg11 v5 v12 v13 v35 v36 v37 v102 (harg6.unread x4) (harg7.unread x5) (harg8.unread x6) s ⟨n, hn⟩).trans ?_
    rw [trip_eq, ih (Nat.le_of_succ_le hn)]
    rfl

/-- The loop makes fifteen trips. -/
theorem trips_eq : k0_t1_loop.trips = 15 := by decide +kernel

/-- The carried value of the printed loop after its last trip. -/
theorem state_end (𝒱 : Variants) (c : Dev nD) (bd : Option 𝒱.V) (i : grid0.Coords) (arg2 : Memref sig .tc .vmem S1x1024x3 .f32) (harg2 : arg2.IsWhole) (arg3 : Memref sig .tc .vmem S1x3x4096 .f32) (harg3 : arg3.IsWhole) (arg4 : Memref sig .tc .vmem S1x4096x256 .bf16) (harg4 : arg4.IsWhole) (arg5 : Memref sig .tc .vmem S10x64 .f32) (harg5 : arg5.IsWhole) (arg6 : Memref sig .tc .vmem S64 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x128 .f32) (harg9 : arg9.IsWhole) (arg10 : Memref sig .tc .vmem S128 .f32) (harg10 : arg10.IsWhole) (arg11 : Memref sig .tc .vmem S1x1024x128 .f32) (harg11 : arg11.IsWhole)
    (v5 : FVec Ideal S4096x256 .bf16) (v12 : FVec Ideal S3x64 .f32) (v13 : FVec Ideal S1x64 .f32) (v35 : FVec Ideal S1024x4096 .f32) (v36 : FVec Ideal S1024x64 .f32) (v37 : FVec Ideal S1024x128 .f32) (v102 : FVec Ideal S1024x1 .f32)
    (x4 : Vec Ideal S64 .f32) (x5 : Vec Ideal S128x128 .f32) (x6 : Vec Ideal S128 .f32) (s : Carry) :
    st_k0_t1 (F := Ideal) 𝒱 c bd i arg2 harg2 arg3 harg3 arg4 harg4 arg5 harg5 arg6 harg6 arg7 harg7 arg8 harg8 arg9 harg9 arg10 harg10 arg11 harg11 v5 v12 v13 v35 v36 v37 v102 (harg6.unread x4) (harg7.unread x5) (harg8.unread x6) s (Scf.trips (0#32) (Scalar.addi 0#32 15#32) 1#32)
      = iterV v5 v12 v13 v36 x4 x5 x6 s 15 := by
  have e : Scf.trips (0#32) (Scalar.addi 0#32 15#32) 1#32 = 15 := by decide +kernel
  rw [e]
  exact state_eq (hn := by rw [trips_eq]) ..

/-- The smallest distance of each row, taken before the loop. -/
def firstV (v0 : Vec Ideal S1x1024x3 .f32) (v2 : Vec Ideal S1x3x4096 .f32) : FVec Ideal S1024x1 .f32 :=
  k0_pay26 (k0_pay17 v0 v2) (k0_pay20 v0 v2) (k0_pay21 v0 v2) (k0_pay22 v0 v2) (k0_pay23 v0 v2) (k0_pay24 v0 v2) (k0_pay25 v0 v2)

/-- The carried value at the loop's start. -/
def startV (v0 : Vec Ideal S1x1024x3 .f32) (v2 : Vec Ideal S1x3x4096 .f32) : Carry :=
  (k0_pay28 (k0_pay17 v0 v2) (firstV v0 v2), firstV v0 v2, k0_pay29 (k0_pay17 v0 v2) (firstV v0 v2), k0_pay19)

/-- The carried value after the loop, of the loaded blocks. -/
def endV (x0 : Vec Ideal S1x1024x3 .f32) (x1 : Vec Ideal S1x3x4096 .f32) (x2 : Vec Ideal S1x4096x256 .bf16) (x3 : Vec Ideal S10x64 .f32) (x4 : Vec Ideal S64 .f32) (x5 : Vec Ideal S128x128 .f32) (x6 : Vec Ideal S128 .f32) (n : ℕ) : Carry :=
  iterV (k0_pay14 x2) (k0_pay15 x3) (k0_pay16 x3) (k0_pay18 x0 x3) x4 x5 x6 (startV x0 x1) n

/-- What the kernel leaves in its output block. -/
def blockV (x0 : Vec Ideal S1x1024x3 .f32) (x1 : Vec Ideal S1x3x4096 .f32) (x2 : Vec Ideal S1x4096x256 .bf16) (x3 : Vec Ideal S10x64 .f32) (x4 : Vec Ideal S64 .f32) (x5 : Vec Ideal S128x128 .f32) (x6 : Vec Ideal S128 .f32) (x7 : Vec Ideal S128x128 .f32) (x8 : Vec Ideal S128 .f32) : Vec Ideal S1x1024x128 .f32 :=
  k0_pay1 (endV x0 x1 x2 x3 x4 x5 x6 15).2.2.2
    (k0_pay31 (k0_pay14 x2) (k0_pay15 x3) (k0_pay16 x3) (k0_pay18 x0 x3) (endV x0 x1 x2 x3 x4 x5 x6 15).1 (endV x0 x1 x2 x3 x4 x5 x6 15).2.1 x4)
    (k0_pay32 (k0_pay14 x2) (k0_pay15 x3) (k0_pay16 x3) (k0_pay18 x0 x3) (endV x0 x1 x2 x3 x4 x5 x6 15).1 (endV x0 x1 x2 x3 x4 x5 x6 15).2.1 x4 x5 x6) x7 x8

/-- The block that the printed kernel leaves. -/
theorem out_eq (c : Dev nD) (i : grid0.Coords) (arg2 : Memref sig .tc .vmem S1x1024x3 .f32) (harg2 : arg2.IsWhole) (arg3 : Memref sig .tc .vmem S1x3x4096 .f32) (harg3 : arg3.IsWhole) (arg4 : Memref sig .tc .vmem S1x4096x256 .bf16) (harg4 : arg4.IsWhole) (arg5 : Memref sig .tc .vmem S10x64 .f32) (harg5 : arg5.IsWhole) (arg6 : Memref sig .tc .vmem S64 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x128 .f32) (harg9 : arg9.IsWhole) (arg10 : Memref sig .tc .vmem S128 .f32) (harg10 : arg10.IsWhole) (arg11 : Memref sig .tc .vmem S1x1024x128 .f32) (harg11 : arg11.IsWhole)
    (x0 : Vec Ideal S1x1024x3 .f32) (x1 : Vec Ideal S1x3x4096 .f32) (x2 : Vec Ideal S1x4096x256 .bf16) (x3 : Vec Ideal S10x64 .f32) (x4 : Vec Ideal S64 .f32) (x5 : Vec Ideal S128x128 .f32) (x6 : Vec Ideal S128 .f32) (x7 : Vec Ideal S128x128 .f32) (x8 : Vec Ideal S128 .f32) :
    out0_A_9 (F := Ideal) c i arg2 harg2 arg3 harg3 arg4 harg4 arg5 harg5 arg6 harg6 arg7 harg7 arg8 harg8 arg9 harg9 arg10 harg10 arg11 harg11 x0 x1 x2 x3 x4 x5 x6 x7 x8 = blockV x0 x1 x2 x3 x4 x5 x6 x7 x8 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 x0 x1 x2 x3 x4 x5 x6 x7 x8)]
  unfold kernelRun0_A
  dsimp only
  sl_unfold_words
  rw [View.canon_unit_zero hz3]
  simp only [View.readAt_eq_ld, harg2.read_unread, harg3.read_unread, harg4.read_unread, harg5.read_unread, harg6.read_unread, harg7.read_unread,
    harg8.read_unread, harg9.read_unread, harg10.read_unread, View.ld_unit_zero (S := S64) hz1, View.ld_unit_zero (S := S128) hz1,
    View.ld_unit_zero (S := S128x128) hz2, View.ld_unit_zero (S := S10x64) hz2, View.ld_unit_zero (S := S1x1024x3) hz3,
    View.ld_unit_zero (S := S1x3x4096) hz3, View.ld_unit_zero (S := S1x4096x256) hz3, state_end]
  rfl

end Cert.Kern

end
-- ==== Proof.Inv.lean ====
module

public import proofs.«01_k».proof.Proof.Loop

/-! The kernel's block for one query point: the loop takes the nearest points one after another, and the block ends
holding the result of the specification. -/

@[expose] public section

set_option maxRecDepth 16384

noncomputable section

open Idealize.ShloMosaic Cert.KernelIdeal Cert.KernelIdeal.Gen

namespace Cert.Kern

attribute [local instance] Cert.KernelIdeal.Gen.facts

/-- What the loaded blocks hold, seen from row `q` of the block, which is the point `Q`: the row's point, all points, the
table of features and coordinates with a second half that adds nothing to the first, and that the points and three rows
of weights are finite and the distances apart. -/
structure Blocks (x0 : Vec Ideal S1x1024x3 .f32) (x1 : Vec Ideal S1x3x4096 .f32) (x2 : Vec Ideal S1x4096x256 .bf16) (x3 : Vec Ideal S10x64 .f32)
    (pt : Fin 4096 → Fin 3 → EReal) (ft : Fin 4096 → Fin 64 → EReal) (q : Fin 1024) (Q : Fin 4096) : Prop where
  own : ∀ d, x0 (ix3 0 q d) = pt Q d
  all : ∀ d j, x1 (ix3 0 d j) = pt j d
  feat : ∀ j (c : Fin 64), x2 (ix3 0 j ⟨c.val, by omega⟩) = ft j c
  coord : ∀ j (d : Fin 3), x2 (ix3 0 j ⟨64 + d.val, by omega⟩) = pt j d
  low : ∀ j (k : Fin 128), (x2 (ix3 0 j ⟨k.val, by omega⟩) : EReal) + x2 (ix3 0 j ⟨128 + k.val, by omega⟩) = x2 (ix3 0 j ⟨k.val, by omega⟩)
  finite : ∀ j d, Pre.Finite (pt j d)
  weights : ∀ (k : Fin 3) c, Pre.Finite (x3 (ix2 ⟨6 + k.val, by omega⟩ c))
  apart : Near.Apart (Spec.dist pt Q)

section

variable {x0 : Vec Ideal S1x1024x3 .f32} {x1 : Vec Ideal S1x3x4096 .f32} {x2 : Vec Ideal S1x4096x256 .bf16} {x3 : Vec Ideal S10x64 .f32}
  {pt : Fin 4096 → Fin 3 → EReal} {ft : Fin 4096 → Fin 64 → EReal} {q : Fin 1024} {Q : Fin 4096}

/-- The row's distances are those of the specification. -/
theorem Blocks.dist (B : Blocks x0 x1 x2 x3 pt ft q Q) (j : Fin 4096) : k0_pay17 x0 x1 (ix2 q j) = Spec.dist pt Q j := by
  rw [dist_at]
  unfold Spec.dist
  refine Finset.sum_congr rfl fun d _ => ?_
  rw [B.own, B.all]

/-- A number above exactly what is below the whole masked row is the next nearest distance. -/
theorem nbr_min (pt : Fin 4096 → Fin 3 → EReal) (Q : Fin 4096) (n : ℕ) (hn : n < 16) (m : EReal)
    (h : ∀ c, c ≤ m ↔ ∀ j, c ≤ Near.masked (Spec.dist pt Q) n j) : m = Spec.dist pt Q (Spec.nbr pt Q ⟨n, hn⟩) := by
  unfold Spec.nbr
  exact eq_of_forall_le_iff fun c => (h c).trans (Near.le_nth_iff (Spec.dist pt Q) ⟨n, hn⟩ c)

/-- Only the next nearest point is not above the next nearest distance. -/
theorem nbr_mark (pt : Fin 4096 → Fin 3 → EReal) (Q : Fin 4096) (hk : Near.Apart (Spec.dist pt Q)) (n : ℕ) (hn : n < 16) (j : Fin 4096) :
    Near.masked (Spec.dist pt Q) n j ≤ Spec.dist pt Q (Spec.nbr pt Q ⟨n, hn⟩) ↔ j = Spec.nbr pt Q ⟨n, hn⟩ := by
  unfold Spec.nbr
  exact Near.masked_le_iff (Spec.dist pt Q) hk ⟨n, hn⟩ j

/-- Masking what is not above the next nearest distance masks one point more. -/
theorem nbr_rest (pt : Fin 4096 → Fin 3 → EReal) (Q : Fin 4096) (hk : Near.Apart (Spec.dist pt Q)) (n : ℕ) (hn : n < 16) (j : Fin 4096) :
    Near.masked (Spec.dist pt Q) (n + 1) j
      = if Near.masked (Spec.dist pt Q) n j ≤ Spec.dist pt Q (Spec.nbr pt Q ⟨n, hn⟩) then ⊤ else Near.masked (Spec.dist pt Q) n j := by
  unfold Spec.nbr
  exact Near.masked_succ (Spec.dist pt Q) hk ⟨n, hn⟩ j

/-- Nothing is masked at first. -/
theorem masked_zero (key : Fin 4096 → EReal) (j : Fin 4096) : Near.masked key 0 j = key j := by unfold Near.masked; rfl

/-- The first minimum is the greatest number below all distances of the row. -/
theorem start_least (x0 : Vec Ideal S1x1024x3 .f32) (x1 : Vec Ideal S1x3x4096 .f32) (q : Fin 1024) (c : EReal) :
    c ≤ (startV x0 x1).2.1 (ix2 q 0) ↔ ∀ j, c ≤ (k0_pay17 x0 x1 (ix2 q j) : EReal) := by
  unfold startV firstV
  dsimp only
  exact first_min x0 x1 q 0 c

/-- The first marking. -/
theorem start_mark (x0 : Vec Ideal S1x1024x3 .f32) (x1 : Vec Ideal S1x3x4096 .f32) (q : Fin 1024) (j : Fin 4096) :
    (startV x0 x1).1 (ix2 q j) = if (k0_pay17 x0 x1 (ix2 q j) : EReal) ≤ (startV x0 x1).2.1 (ix2 q 0) then (1 : EReal) else 0 := by
  have e1 : (startV x0 x1).1 = k0_pay28 (k0_pay17 x0 x1) (firstV x0 x1) := by unfold startV; dsimp only
  have e2 : (startV x0 x1).2.1 = firstV x0 x1 := by unfold startV; dsimp only
  rw [e1, e2]
  exact first_mark _ _ q j

/-- The first masking. -/
theorem start_rest (x0 : Vec Ideal S1x1024x3 .f32) (x1 : Vec Ideal S1x3x4096 .f32) (q : Fin 1024) (j : Fin 4096) :
    (startV x0 x1).2.2.1 (ix2 q j)
      = if (k0_pay17 x0 x1 (ix2 q j) : EReal) ≤ (startV x0 x1).2.1 (ix2 q 0) then (⊤ : EReal) else k0_pay17 x0 x1 (ix2 q j) := by
  have e1 : (startV x0 x1).2.2.1 = k0_pay29 (k0_pay17 x0 x1) (firstV x0 x1) := by unfold startV; dsimp only
  have e2 : (startV x0 x1).2.1 = firstV x0 x1 := by unfold startV; dsimp only
  rw [e1, e2]
  exact first_mask _ _ q j

/-- The first sum. -/
theorem start_sum (x0 : Vec Ideal S1x1024x3 .f32) (x1 : Vec Ideal S1x3x4096 .f32) (q : Fin 1024) (c : Fin 128) :
    (startV x0 x1).2.2.2 (ix2 q c) = (0 : EReal) := by
  unfold startV
  dsimp only
  exact zero_at q c

section

variable (v5 : FVec Ideal S4096x256 .bf16) (v12 : FVec Ideal S3x64 .f32) (v13 : FVec Ideal S1x64 .f32) (v36 : FVec Ideal S1024x64 .f32)
    (b0 : Vec Ideal S64 .f32) (w : Vec Ideal S128x128 .f32) (b : Vec Ideal S128 .f32) (s : Carry) (q : Fin 1024)

/-- A trip's minimum is the greatest number below all of the carried row. -/
theorem trip_least (c : EReal) :
    c ≤ (tripV v5 v12 v13 v36 b0 w b s).2.1 (ix2 q 0) ↔ ∀ j, c ≤ (s.2.2.1 (ix2 q j) : EReal) := by
  unfold tripV
  dsimp only
  exact loop_min s.2.2.1 q 0 c

/-- A trip's marking. -/
theorem trip_mark (j : Fin 4096) :
    (tripV v5 v12 v13 v36 b0 w b s).1 (ix2 q j)
      = if (s.2.2.1 (ix2 q j) : EReal) ≤ (tripV v5 v12 v13 v36 b0 w b s).2.1 (ix2 q 0) then (1 : EReal) else 0 := by
  have e1 : (tripV v5 v12 v13 v36 b0 w b s).1 = k0_pay9 s.2.2.1 (k0_pay2 s.2.2.1) (k0_pay3 s.2.2.1) (k0_pay4 s.2.2.1) (k0_pay5 s.2.2.1) (k0_pay6 s.2.2.1) := by unfold tripV; dsimp only
  have e2 : (tripV v5 v12 v13 v36 b0 w b s).2.1 = k0_pay7 (k0_pay2 s.2.2.1) (k0_pay3 s.2.2.1) (k0_pay4 s.2.2.1) (k0_pay5 s.2.2.1) (k0_pay6 s.2.2.1) := by unfold tripV; dsimp only
  rw [e1, e2]
  exact loop_mark _ _ _ _ _ _ q j

/-- A trip's masking. -/
theorem trip_rest (j : Fin 4096) :
    (tripV v5 v12 v13 v36 b0 w b s).2.2.1 (ix2 q j)
      = if (s.2.2.1 (ix2 q j) : EReal) ≤ (tripV v5 v12 v13 v36 b0 w b s).2.1 (ix2 q 0) then (⊤ : EReal) else s.2.2.1 (ix2 q j) := by
  have e1 : (tripV v5 v12 v13 v36 b0 w b s).2.2.1 = k0_pay10 s.2.2.1 (k0_pay2 s.2.2.1) (k0_pay3 s.2.2.1) (k0_pay4 s.2.2.1) (k0_pay5 s.2.2.1) (k0_pay6 s.2.2.1) := by unfold tripV; dsimp only
  have e2 : (tripV v5 v12 v13 v36 b0 w b s).2.1 = k0_pay7 (k0_pay2 s.2.2.1) (k0_pay3 s.2.2.1) (k0_pay4 s.2.2.1) (k0_pay5 s.2.2.1) (k0_pay6 s.2.2.1) := by unfold tripV; dsimp only
  rw [e1, e2]
  exact loop_mask _ _ _ _ _ _ q j

/-- A trip's sum. -/
theorem trip_sum (c : Fin 128) :
    (tripV v5 v12 v13 v36 b0 w b s).2.2.2 (ix2 q c)
      = ((s.2.2.2 (ix2 q c) : EReal) + Spec.pool (fun k c => w (ix2 k c)) (fun c => b (ix1 c)) (fun k => k0_pay11 v5 v12 v13 v36 s.1 s.2.1 b0 (ix2 q k)) c : EReal) := by
  unfold tripV
  dsimp only
  refine (add_at _ _ _ q c).trans ?_
  simp only [shifted_at]
  rfl

end

/-- The row that the marking selects is the feature row of the marked point. -/
theorem Blocks.row (B : Blocks x0 x1 x2 x3 pt ft q Q) (x4 : Vec Ideal S64 .f32) (oh : FVec Ideal S1024x4096 .bf16) (m : FVec Ideal S1024x1 .f32) (n : Fin 4096)
    (hoh : ∀ j, oh (ix2 q j) = if j = n then (1 : EReal) else 0) (hm : m (ix2 q 0) = Spec.dist pt Q n) (c : Fin 128) :
    k0_pay11 (k0_pay14 x2) (k0_pay15 x3) (k0_pay16 x3) (k0_pay18 x0 x3) oh m x4 (ix2 q c)
      = Spec.row pt ft (fun k c => x3 (ix2 k c)) (fun c => x4 (ix1 c)) Q n c := by
  rw [row_at _ _ _ _ _ _ _ q c n hoh (fun k => by rw [tab_at, tab_at]; exact B.low n k)]
  unfold Spec.row
  by_cases h : c.val < 64
  · rw [dif_pos h, dif_pos h]
    exact (tab_at x2 _ _).trans (B.feat n ⟨c.val, h⟩)
  · rw [dif_neg h, dif_neg h]
    rw [← Dense.loc_eq pt (fun k c => x3 (ix2 k c)) (fun c => x4 (ix1 c)) Q n ⟨c.val - 64, by omega⟩ B.finite (fun k => B.weights k _)]
    rw [hm, own_at, normw_at]
    unfold Spec.norm
    refine congrArg (max · 0) (congrArg (· + _) (congrArg (· + _) (congrArg₂ (· + ·) ?_ ?_)))
    · refine Finset.sum_congr rfl fun d _ => ?_
      rw [B.own]
    · refine Finset.sum_congr rfl fun d _ => ?_
      exact congrArg₂ (· * ·) ((tab_at x2 _ _).trans (B.coord n d)) (nbrw_at x3 d _)

/-- What row `q` of the carried value holds before trip `n`: the mark of the neighbour `n`, its distance, the distances
with the taken ones masked, and the weighted rows of the neighbours before it, added up. -/
structure Holds (pt : Fin 4096 → Fin 3 → EReal) (q : Fin 1024) (Q : Fin 4096) (P : Fin 16 → Fin 128 → EReal) (s : Carry) (n : ℕ) (hn : n < 16) : Prop where
  mark : ∀ j, s.1 (ix2 q j) = if j = Spec.nbr pt Q ⟨n, hn⟩ then (1 : EReal) else 0
  least : s.2.1 (ix2 q 0) = Spec.dist pt Q (Spec.nbr pt Q ⟨n, hn⟩)
  rest : ∀ j, s.2.2.1 (ix2 q j) = Near.masked (Spec.dist pt Q) (n + 1) j
  sum : ∀ c, s.2.2.2 (ix2 q c) = ∑ t : Fin n, P ⟨t.val, by omega⟩ c

/-- The weighted feature row of the `t`-th neighbour. -/
def pooled (pt : Fin 4096 → Fin 3 → EReal) (ft : Fin 4096 → Fin 64 → EReal) (x3 : Vec Ideal S10x64 .f32) (x4 : Vec Ideal S64 .f32)
    (x5 : Vec Ideal S128x128 .f32) (x6 : Vec Ideal S128 .f32) (Q : Fin 4096) (t : Fin 16) (c : Fin 128) : EReal :=
  Spec.pool (fun k c => x5 (ix2 k c)) (fun c => x6 (ix1 c))
    (Spec.row pt ft (fun k c => x3 (ix2 k c)) (fun c => x4 (ix1 c)) Q (Spec.nbr pt Q t)) c

/-- The carried value holds the first neighbour when the loop starts. -/
theorem Blocks.start (B : Blocks x0 x1 x2 x3 pt ft q Q) (P : Fin 16 → Fin 128 → EReal) : Holds pt q Q P (startV x0 x1) 0 (by omega) := by
  have hm : (startV x0 x1).2.1 (ix2 q 0) = Spec.dist pt Q (Spec.nbr pt Q ⟨0, by omega⟩) := by
    apply nbr_min
    intro c
    rw [start_least]
    simp only [B.dist, masked_zero]
  refine ⟨fun j => ?_, hm, fun j => ?_, fun c => ?_⟩
  · rw [start_mark, hm, B.dist, ← masked_zero (Spec.dist pt Q) j]
    simp only [nbr_mark pt Q B.apart 0 (by omega)]
  · rw [start_rest, hm, B.dist, nbr_rest pt Q B.apart 0 (by omega), masked_zero]
  · rw [start_sum]
    exact Finset.sum_empty.symm

/-- A trip goes on to the next neighbour. -/
theorem Blocks.step (B : Blocks x0 x1 x2 x3 pt ft q Q) (x4 : Vec Ideal S64 .f32) (x5 : Vec Ideal S128x128 .f32) (x6 : Vec Ideal S128 .f32) (s : Carry) (n : ℕ) (hn : n + 1 < 16)
    (H : Holds pt q Q (pooled pt ft x3 x4 x5 x6 Q) s n (by omega)) :
    Holds pt q Q (pooled pt ft x3 x4 x5 x6 Q) (tripV (k0_pay14 x2) (k0_pay15 x3) (k0_pay16 x3) (k0_pay18 x0 x3) x4 x5 x6 s) (n + 1) hn := by
  have hm : (tripV (k0_pay14 x2) (k0_pay15 x3) (k0_pay16 x3) (k0_pay18 x0 x3) x4 x5 x6 s).2.1 (ix2 q 0)
      = Spec.dist pt Q (Spec.nbr pt Q ⟨n + 1, hn⟩) := by
    apply nbr_min
    intro c
    rw [trip_least]
    simp only [H.rest]
  refine ⟨fun j => ?_, hm, fun j => ?_, fun c => ?_⟩
  · rw [trip_mark, hm, H.rest]
    simp only [nbr_mark pt Q B.apart (n + 1) hn]
  · rw [trip_rest, hm, H.rest, nbr_rest pt Q B.apart (n + 1) hn]
  · rw [trip_sum, H.sum, funext fun c => B.row x4 s.1 s.2.1 _ H.mark H.least c]
    exact (Fin.sum_univ_castSucc fun t : Fin (n + 1) => pooled pt ft x3 x4 x5 x6 Q ⟨t.val, by omega⟩ c).symm

/-- The carried value before trip `n`. -/
theorem Blocks.holds (B : Blocks x0 x1 x2 x3 pt ft q Q) (x4 : Vec Ideal S64 .f32) (x5 : Vec Ideal S128x128 .f32) (x6 : Vec Ideal S128 .f32) (n : ℕ) (hn : n < 16) :
    Holds pt q Q (pooled pt ft x3 x4 x5 x6 Q) (endV x0 x1 x2 x3 x4 x5 x6 n) n hn := by
  induction n with
  | zero => exact B.start _
  | succ n ih => exact B.step x4 x5 x6 _ n hn (ih (by omega))

/-- A dense layer, written out. -/
theorem dense_eq (W : Fin 128 → Fin 128 → EReal) (b : Fin 128 → EReal) (x : Fin 128 → EReal) (c : Fin 128) :
    Spec.dense W b x c = ∑ k, x k * W k c + b c := rfl

/-- Row `q` of the block holds the result for the point `Q`. -/
theorem Blocks.result (B : Blocks x0 x1 x2 x3 pt ft q Q) (x4 : Vec Ideal S64 .f32) (x5 : Vec Ideal S128x128 .f32) (x6 : Vec Ideal S128 .f32)
    (x7 : Vec Ideal S128x128 .f32) (x8 : Vec Ideal S128 .f32) (c : Fin 128) :
    blockV x0 x1 x2 x3 x4 x5 x6 x7 x8 (ix3 0 q c)
      = Spec.out pt ft (fun k c => x3 (ix2 k c)) (fun c => x4 (ix1 c)) (fun k c => x5 (ix2 k c)) (fun c => x6 (ix1 c))
          (fun k c => x7 (ix2 k c)) (fun c => x8 (ix1 c)) Q c := by
  have H := B.holds x4 x5 x6 15 (by omega)
  unfold blockV
  refine (last_at _ _ _ x7 x8 q c).trans ?_
  have hr := fun c => B.row x4 _ _ _ H.mark H.least c
  have hs : ∀ k, k0_pay32 (k0_pay14 x2) (k0_pay15 x3) (k0_pay16 x3) (k0_pay18 x0 x3) (endV x0 x1 x2 x3 x4 x5 x6 15).1 (endV x0 x1 x2 x3 x4 x5 x6 15).2.1 x4 x5 x6 (ix2 q k)
      = Ideal.exp (Spec.shifted (Spec.dense (fun k c => x5 (ix2 k c)) (fun c => x6 (ix1 c))
          (Spec.row pt ft (fun k c => x3 (ix2 k c)) (fun c => x4 (ix1 c)) Q (Spec.nbr pt Q ⟨15, by omega⟩))) k) := fun k => by
    rw [last_exp_at, last_row_eq, funext hr]
  simp only [hs, last_row_eq, hr, H.sum]
  unfold Spec.out
  rw [dense_eq (fun k c => x7 (ix2 k c)) (fun c => x8 (ix1 c))]
  refine congrArg (max · 0) (congrArg (· + _) (Finset.sum_congr rfl fun k _ => congrArg (· * _) ?_))
  exact (Fin.sum_univ_castSucc fun t : Fin 16 => pooled pt ft x3 x4 x5 x6 Q t k).symm

end

end Cert.Kern

end
-- ==== Proof.Final.lean ====
module

public import proofs.«01_k».proof.Proof.Inv
public import proofs.«01_k».proof.Proof.Pre
public import proofs.«01_k».proof.Proof.PreFacts
public import proofs.«01_k».proof.Defs
public import Idealize.ShloMosaic.Lib.Pipeline.ValueKit.Point
public import Idealize.ShloMosaic.Lib.StableHlo.ReadAt

/-! The kernel's result array, at the end of its run, is the plain mathematics of the operation: what each block holds,
read from the arguments, and the blocks put together. -/

@[expose] public section

set_option maxRecDepth 16384

noncomputable section

open Idealize.ShloMosaic Cert.KernelIdeal Cert.KernelIdeal.Gen Idealize.ShloMosaic.TcCoe Idealize.SL.Sem
open Idealize.ShloMosaic.Pipeline (Dat)

namespace Cert.Kern

attribute [local instance] Cert.KernelIdeal.Gen.facts Cert.Pre_bounded_and_apart.facts

variable (m : (ℓ : Loc nD τ sig) → Buf (Elt Ideal) ℓ)

/-- The blocks that the windows stage at a grid point. -/
theorem idx : ∀ t : Fin cfg0.N, win0_0.index t = ![t.val / 4, t.val % 4, 0] ∧ win0_1.index t = ![t.val / 4, 0, 0] ∧ win0_2.index t = ![t.val / 4, 0, 0]
    ∧ win0_3.index t = ![0, 0] ∧ win0_4.index t = ![0] ∧ win0_5.index t = ![0, 0] ∧ win0_6.index t = ![0] ∧ win0_7.index t = ![0, 0] ∧ win0_8.index t = ![0]
    ∧ win0_9.index t = ![t.val / 4, t.val % 4, 0] :=
  (by decide +kernel : ∀ t : Fin grid0.N, _)

/-- The block of points holds the points of the grid point's rows. -/
theorem points_at (c : Dev nD) (t : Fin cfg0.N) (q : Fin 1024) (d : Fin 3) (h : 1024 * (t.val % 4) + q.val < 4096) (hb : t.val / 4 < 2) :
    iblk m c 0 t (ix3 0 q d) = m ((c : Thread nD τ).loc main_arg0) (ix3 ⟨t.val / 4, hb⟩ ⟨1024 * (t.val % 4) + q.val, h⟩ d) := by
  blk_ext! [iblk, V, idx t]

/-- The block of the first weight matrix is the whole argument. -/
theorem wloc_at (c : Dev nD) (t : Fin cfg0.N) : iblk m c 3 t = m ((c : Thread nD τ).loc main_arg2) := by
  blk_ext! [iblk, V, idx t]

/-- The block of the first bias is the whole argument. -/
theorem bloc_at (c : Dev nD) (t : Fin cfg0.N) : iblk m c 4 t = m ((c : Thread nD τ).loc main_arg3) := by
  blk_ext! [iblk, V, idx t]

/-- The block of the scores' weight matrix is the whole argument. -/
theorem wscore_at (c : Dev nD) (t : Fin cfg0.N) : iblk m c 5 t = m ((c : Thread nD τ).loc main_arg4) := by
  blk_ext! [iblk, V, idx t]

/-- The block of the scores' bias is the whole argument. -/
theorem bscore_at (c : Dev nD) (t : Fin cfg0.N) : iblk m c 6 t = m ((c : Thread nD τ).loc main_arg5) := by
  blk_ext! [iblk, V, idx t]

/-- The block of the last weight matrix is the whole argument. -/
theorem wfinal_at (c : Dev nD) (t : Fin cfg0.N) : iblk m c 7 t = m ((c : Thread nD τ).loc main_arg6) := by
  blk_ext! [iblk, V, idx t]

/-- The block of the last bias is the whole argument. -/
theorem bfinal_at (c : Dev nD) (t : Fin cfg0.N) : iblk m c 8 t = m ((c : Thread nD τ).loc main_arg7) := by
  blk_ext! [iblk, V, idx t]

/-- The array of the transposed points. -/
theorem transposed_at (c : Dev nD) (b : Fin 2) (d : Fin 3) (j : Fin 4096) :
    V m c main_v0 (ix3 b d j) = m ((c : Thread nD τ).loc main_arg0) (ix3 b j d) := by
  unfold V
  after_reads_at

/-- The padding of the table is zero. -/
theorem padding_at (c : Dev nD) (b : Fin 2) (j : Fin 4096) (k : Fin 61) :
    StableHlo.upto hostOps0 (fun b => m (c, b)) 3 (Proc.tc.devRef main_v1) (ix3 b j k) = (0 : EReal) := by
  show StableHlo.after (List.take 3 hostOps0) (fun b => m (c, b)) (Proc.tc.devRef main_v1) (ix3 b j k) = (0 : EReal)
  dsimp only [hostOps0, List.take]
  after_reads_at

/-- An entry of the table that the host builds: the features, then the coordinates, then zeros. -/
def entry (c : Dev nD) (b : Fin 2) (j : Fin 4096) (k : Fin 128) : EReal :=
  if h : k.val < 64 then m ((c : Thread nD τ).loc main_arg1) (ix3 b j ⟨k.val, h⟩)
  else if h : k.val - 64 < 3 then m ((c : Thread nD τ).loc main_arg0) (ix3 b j ⟨k.val - 64, h⟩)
  else 0

/-- The staged table: the first 128 columns are the entries, the last 128 are what is left of them after rounding, which
is each entry minus itself. -/
theorem table_at (c : Dev nD) (b : Fin 2) (j : Fin 4096) (k : Fin 256) :
    V m c main_v7 (ix3 b j k) = if h : k.val < 128 then entry m c b j ⟨k.val, h⟩
      else entry m c b j ⟨k.val - 128, by omega⟩ - entry m c b j ⟨k.val - 128, by omega⟩ := by
  generalize hx : (if h : k.val < 128 then entry m c b j ⟨k.val, h⟩
      else entry m c b j ⟨k.val - 128, by omega⟩ - entry m c b j ⟨k.val - 128, by omega⟩) = x
  unfold V
  after_reads_at
  have e0 : StableHlo.upto hostOps0 (fun b => m (c, b)) 3 (Proc.tc.devRef main_arg0) = m ((c : Thread nD τ).loc main_arg0) :=
    StableHlo.upto_unwritten [main_v0, main_cst, main_v1] rfl (by decide) _
  have e1 : StableHlo.upto hostOps0 (fun b => m (c, b)) 3 (Proc.tc.devRef main_arg1) = m ((c : Thread nD τ).loc main_arg1) :=
    StableHlo.upto_unwritten [main_v0, main_cst, main_v1] rfl (by decide) _
  have e2 : StableHlo.upto hostOps0 (fun b => m (c, b)) 3 (Proc.tc.devRef main_v1) = fun _ => (0 : EReal) := by
    funext i
    rw [eq_ix3 i]
    exact padding_at m c _ _ _
  simp only [e0, e1, e2]
  exact hx

/-- What is left of a number after rounding adds nothing to it, unless the number is plus infinity. -/
theorem add_left_over {x : EReal} (h : x ≠ ⊤) : x + (x - x) = x := by
  induction x with
  | bot => simp
  | top => exact absurd rfl h
  | coe r => rw [EReal.sub_self (EReal.coe_ne_top r) (EReal.coe_ne_bot r), add_zero]

/-- An entry of the table is not plus infinity if the points are finite and no feature is plus infinity. -/
theorem entry_bounded (c : Dev nD) (b : Fin 2) (j : Fin 4096) (k : Fin 128)
    (h0 : ∀ d, Pre.Finite (m ((c : Thread nD τ).loc main_arg0) (ix3 b j d)))
    (h1 : ∀ d, m ((c : Thread nD τ).loc main_arg1) (ix3 b j d) ≠ (⊤ : EReal)) : entry m c b j k ≠ ⊤ := by
  unfold entry
  split_ifs
  · exact h1 _
  · exact (h0 _).1
  · exact EReal.zero_ne_top

/-- The block of transposed points is its batch entry. -/
theorem all_at (c : Dev nD) (t : Fin cfg0.N) (d : Fin 3) (j : Fin 4096) (hb : t.val / 4 < 2) :
    iblk m c 1 t (ix3 0 d j) = V m c main_v0 (ix3 ⟨t.val / 4, hb⟩ d j) := by
  blk_ext [iblk, idx t]

/-- The block of the table is its batch entry. -/
theorem tab_blk (c : Dev nD) (t : Fin cfg0.N) (k : Fin 256) (j : Fin 4096) (hb : t.val / 4 < 2) :
    iblk m c 2 t (ix3 0 j k) = V m c main_v7 (ix3 ⟨t.val / 4, hb⟩ j k) := by
  blk_ext [iblk, idx t]

/-- What the blocks of a grid point hold, for the point `q` of the block, under the precondition. -/
theorem blocks (h : Cert.Pre_KernelIdeal_bounded_and_apart m) (c : Dev nD) (t : Fin cfg0.N) (q : Fin 1024) (hq : 1024 * (t.val % 4) + q.val < 4096)
    (hb : t.val / 4 < 2) :
    Blocks (iblk m c 0 t) (iblk m c 1 t) (iblk m c 2 t) (iblk m c 3 t)
      (fun j d => m ((c : Thread nD τ).loc main_arg0) (ix3 ⟨t.val / 4, hb⟩ j d))
      (fun j k => m ((c : Thread nD τ).loc main_arg1) (ix3 ⟨t.val / 4, hb⟩ j k)) q ⟨1024 * (t.val % 4) + q.val, hq⟩ where
  own d := points_at m c t q d hq hb
  all d j := (all_at m c t d j hb).trans (transposed_at m c _ d j)
  feat j k := by
    rw [tab_blk m c t _ _ hb, table_at, dif_pos (show k.val < 128 by omega)]
    unfold entry
    rw [dif_pos k.isLt]
  coord j d := by
    rw [tab_blk m c t _ _ hb, table_at, dif_pos (show 64 + d.val < 128 by omega)]
    unfold entry
    rw [dif_neg (show ¬ 64 + d.val < 64 by omega), dif_pos (show 64 + d.val - 64 < 3 by omega)]
    congr 2
    apply Fin.ext
    show 64 + d.val - 64 = d.val
    omega
  low j k := by
    rw [tab_blk m c t _ _ hb, tab_blk m c t _ _ hb, table_at, table_at, dif_neg (show ¬ 128 + k.val < 128 by omega),
      dif_pos (show k.val < 128 by omega)]
    have hk : (⟨128 + k.val - 128, by omega⟩ : Fin 128) = k := Fin.ext (show 128 + k.val - 128 = k.val by omega)
    have e := entry_bounded m c ⟨t.val / 4, hb⟩ j k (fun d => Pre.points _ _ _ _ _ _ _ _ (h c).2.2 _ _ _)
      (fun d => Pre.features _ _ _ _ _ _ _ _ (h c).1 _ _ _)
    simp only [hk]
    exact add_left_over e
  finite j d := Pre.points _ _ _ _ _ _ _ _ (h c).2.2 _ _ _
  weights k d := by
    rw [wloc_at]
    exact Pre.weights _ _ _ _ _ _ _ _ (h c).2.1 k d
  apart := Pre.apart _ _ _ _ _ _ _ _ (h c).2.2 _ _

/-- The result that the kernel is shown to leave: the mathematics of the operation at every index. -/
def goal (c : Dev nD) : (⟨S2x4096x128, .f32⟩ : BufTy).Contents (Elt Ideal) := fun i =>
  Spec.result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (i 0) (i 1) (i 2)

/-- Where the block's index `(0, q, k)` lies in the result. -/
theorem emb_at (t : Fin cfg0.N) (q : Fin 1024) (k : Fin 128) (hq : 1024 * (t.val % 4) + q.val < 4096) (hb : t.val / 4 < 2) :
    (win0_9.blk t).view.emb (ix3 (n0 := 1) (n1 := 1024) (n2 := 128) 0 q k) = ix3 (n0 := 2) (n1 := 4096) (n2 := 128) ⟨t.val / 4, hb⟩ ⟨1024 * (t.val % 4) + q.val, hq⟩ k := by
  blk_ext [idx t]

/-- The result array at the end is the mathematics of the operation. -/
theorem final (h : Cert.Pre_KernelIdeal_bounded_and_apart m) (c : Dev nD) : (dats m 0 c).arrAt 9 cfg0.N = goal m c := by
  refine (dats m 0 c).arrAt_eq_of_covers 9 _ (by decide +kernel) fun t hf y => ?_
  blk_simp
  rw [after0_9]
  unfold outsAt0
  rw [out_eq]
  have ht : t.val < 8 := t.isLt
  revert y
  suffices H : ∀ y : (⟨3, ![1, 1024, 128]⟩ : Shape).Idx, blockV (iblk m c 0 t) (iblk m c 1 t) (iblk m c 2 t) (iblk m c 3 t) (iblk m c 4 t) (iblk m c 5 t) (iblk m c 6 t)
      (iblk m c 7 t) (iblk m c 8 t) y = goal m c ((win0_9.blk t).view.emb y) from H
  suffices H : ∀ (q : Fin 1024) (k : Fin 128), blockV (iblk m c 0 t) (iblk m c 1 t) (iblk m c 2 t) (iblk m c 3 t) (iblk m c 4 t) (iblk m c 5 t) (iblk m c 6 t)
      (iblk m c 7 t) (iblk m c 8 t) (ix3 0 q k) = goal m c ((win0_9.blk t).view.emb (ix3 (n0 := 1) (n1 := 1024) (n2 := 128) 0 q k)) by
    intro y
    obtain ⟨z, q, k, rfl⟩ : ∃ (z : Fin 1) (q : Fin 1024) (k : Fin 128), y = ix3 z q k := ⟨y 0, y 1, y 2, eq_ix3 y⟩
    obtain rfl : z = 0 := Subsingleton.elim _ _
    exact H q k
  intro q k
  have hq : 1024 * (t.val % 4) + q.val < 4096 := by omega
  have hb : t.val / 4 < 2 := by omega
  rw [emb_at t q k hq hb, (blocks m h c t q hq hb).result, wloc_at, bloc_at, wscore_at, bscore_at, wfinal_at, bfinal_at]
  rfl

end Cert.Kern

end
-- ==== Proof.Ref.lean ====
module

public import proofs.«01_k».proof.Proof.Gen.ReferenceIdeal.Run
public import proofs.«01_k».proof.Proof.Spec
public import proofs.«01_k».proof.Proof.Pick
public import Idealize.ShloMosaic.Lib.Pointwise
public import Idealize.ShloMosaic.Lib.IdealHost

/-! The reference's result, read at an index, is the plain mathematics of the operation. -/

@[expose] public section

set_option maxRecDepth 16384

open Idealize.ShloMosaic Cert.ReferenceIdeal Cert.ReferenceIdeal.Gen Cert.ReferenceIdeal.Value Idealize.ShloMosaic.StableHlo

namespace Cert.Ref

attribute [local instance] Cert.ReferenceIdeal.Gen.facts

variable (V : Valuation τ sig (Elt Ideal))

/-- The coordinates of a batch entry's points. -/
noncomputable abbrev pt (b : Fin 2) (j : Fin 4096) (d : Fin 3) : EReal :=
  (V (Proc.devRef .tc main_arg0) : FVec Ideal S2x4096x3 .f32) (ix3 b j d)

/-- The difference of two points. -/
theorem v4_at (b : Fin 2) (q j : Fin 4096) (d : Fin 3) :
    (res_main_v4 (F := Ideal) V : FVec Ideal S2x4096x4096x3 .f32) (ix4 b q j d) = pt V b q d - pt V b j d := by
  pointwise [res_main_v4]

/-- The negated squared distance. -/
theorem v7_at (b : Fin 2) (q j : Fin 4096) :
    (res_main_v7 (F := Ideal) V : FVec Ideal S2x4096x4096 .f32) (ix3 b q j) = -Spec.dist (pt V b) q j := by
  pointwise [res_main_v7]
  simp only [v4_at]
  rfl

/-- The index of the `t`-th neighbour. -/
theorem indices_at (b : Fin 2) (q : Fin 4096) (t : Fin 16) :
    (res_main_indices (F := Ideal) V : IVec S2x4096x16 32) (ix3 b q t) = BitVec.ofNat 32 (Spec.nbr (pt V b) q t).val := by
  unfold res_main_indices
  refine (Pick.topK_pos (by omega) (res_main_v7 V) _ b q t).trans ?_
  simp only [v7_at]
  rfl

/-- A number below 4096 is not negative as a word. -/
theorem not_slt (k : Fin 4096) : (BitVec.ofNat 32 k.val).slt 0#32 = false := by
  rw [BitVec.slt_eq_decide]
  have := k.isLt
  simp only [BitVec.toInt_eq_toNat_cond, BitVec.toNat_ofNat]
  rw [decide_eq_false_iff_not]
  omega

/-- Reading an array with a unit axis added at its end. -/
theorem unit_at {α : Type} (x : S2x4096x16.Idx → α) (b : Fin 2) (q : Fin 4096) (t : Fin 16) (z : Fin 1) :
    broadcastInDim S2x4096x16x1 ![0, 1, 2] bcast_S2x4096x16_S2x4096x16x1_0_1_2 x (ix4 b q t z) = x (ix3 b q t) := by
  refine congrArg x ?_
  funext a
  match a with
  | ⟨0, _⟩ => rfl
  | ⟨1, _⟩ => rfl
  | ⟨2, _⟩ => rfl

/-- The indices as the gather takes them: the wrapping of negative indices leaves them as they are. -/
theorem wrapped_at (i : IVec S2x4096x16 32) (b : Fin 2) (q : Fin 4096) (t : Fin 16) (k : Fin 4096)
    (hk : i (ix3 b q t) = BitVec.ofNat 32 k.val) :
    broadcastInDim S2x4096x16x1 ![0, 1, 2] bcast_S2x4096x16_S2x4096x16x1_0_1_2 (select (cmpi .slt i (broadcastInDim S2x4096x16 ![] bcast_S_S2x4096x16 (constantI S_ 32 0#32))) (addi i (broadcastInDim S2x4096x16 ![] bcast_S_S2x4096x16 (constantI S_ 32 4096#32))) i) (ix4 b q t 0)
      = BitVec.ofNat 32 k.val := by
  refine (show _ = (if (IntOp.cmpi .slt (i (ix3 b q t)) 0#32) = 1 then IntOp.addi (i (ix3 b q t)) 4096#32 else i (ix3 b q t)) from ?_).trans ?_
  · exact unit_at _ b q t 0
  rw [hk]
  simp [IntOp.cmpi, not_slt]

/-- The neighbours' coordinates. -/
theorem v14_at (b : Fin 2) (q : Fin 4096) (t : Fin 16) (d : Fin 3) :
    (res_main_v14 (F := Ideal) V : FVec Ideal S2x4096x16x3 .f32) (ix4 b q t d) = pt V b (Spec.nbr (pt V b) q t) d := by
  unfold res_main_v14
  exact Pick.gather_rows _ _ _ b q t d (Spec.nbr (pt V b) q t) (wrapped_at _ b q t _ (indices_at V b q t))

/-- The points' own coordinates, once for each neighbour. -/
theorem v17_at (b : Fin 2) (q : Fin 4096) (t : Fin 16) (d : Fin 3) :
    (res_main_v17 (F := Ideal) V : FVec Ideal S2x4096x16x3 .f32) (ix4 b q t d) = pt V b q d := by
  pointwise [res_main_v17]

/-- The difference of the point and its neighbour. -/
theorem v18_at (b : Fin 2) (q : Fin 4096) (t : Fin 16) (d : Fin 3) :
    (res_main_v18 (F := Ideal) V : FVec Ideal S2x4096x16x3 .f32) (ix4 b q t d)
      = pt V b q d - pt V b (Spec.nbr (pt V b) q t) d := by
  pointwise [res_main_v18]
  rw [v17_at, v14_at]

/-- The feature row of the `t`-th neighbour. -/
noncomputable abbrev row (b : Fin 2) (q : Fin 4096) (t : Fin 16) : Fin 128 → EReal :=
  Spec.row (pt V b) (fun j c => (V (Proc.devRef .tc main_arg1) : FVec Ideal S2x4096x64 .f32) (ix3 b j c))
    (fun k c => (V (Proc.devRef .tc main_arg2) : FVec Ideal S10x64 .f32) (ix2 k c))
    (fun c => (V (Proc.devRef .tc main_arg3) : FVec Ideal S64 .f32) (ix1 c)) q (Spec.nbr (pt V b) q t)

/-- The neighbours' feature rows. -/
theorem v38_at (b : Fin 2) (q : Fin 4096) (t : Fin 16) (c : Fin 128) :
    (res_main_v38 (F := Ideal) V : FVec Ideal S2x4096x16x128 .f32) (ix4 b q t c) = row V b q t c := by
  pointwise [res_main_v38]
  simp only [v14_at, v17_at, v18_at]
  unfold row Spec.row Spec.loc Spec.enc Spec.norm Spec.dist
  by_cases h : c.val < 64
  · rw [dif_pos h, dif_pos h]
    exact Pick.gather_rows _ _ _ b q t ⟨c, h⟩ (Spec.nbr (pt V b) q t) (wrapped_at _ b q t _ (indices_at V b q t))
  · rw [dif_neg h, dif_neg h]

/-- The maximum over the last axis. -/
theorem max_at (x : FVec Ideal S2x4096x16x128 .f32) (b : Fin 2) (q : Fin 4096) (t : Fin 16) :
    Host.reduce FloatOps.maximumf x (constant S_ .f32 0xFF800000#32) reducesTo_S2x4096x16x128_S2x4096x16_d3 h_S_ (ix3 b q t)
      = Finset.univ.fold max (Ideal.ofBits .f32 4286578688#32) fun k : Fin 128 => x (ix4 b q t k) :=
  Pick.max_last x _ _ _ b q t

/-- The exponential of the values minus a number for each row that is at least minus infinity. -/
theorem exp_of (x : FVec Ideal S2x4096x16x128 .f32) (M : FVec Ideal S2x4096x16 .f32) (b : Fin 2) (q : Fin 4096) (t : Fin 16) (c : Fin 128) :
    Host.exp (subf x (broadcastInDim S2x4096x16x128 ![0, 1, 2, 3] bcast_S2x4096x16x1_S2x4096x16x128_0_1_2_3 (broadcastInDim S2x4096x16x1 ![0, 1, 2] bcast_S2x4096x16_S2x4096x16x1_0_1_2 (maximumf (broadcastInDim S2x4096x16 ![] bcast_S_S2x4096x16 (constant S_ .f32 0xFF800000#32)) M)))) (ix4 b q t c)
      = Ideal.exp (x (ix4 b q t c) - max (Ideal.ofBits .f32 4286578688#32) (M (ix3 b q t))) := by
  pointwise

/-- The maximum of a row, taken once more with the starting value. -/
theorem max_again (f : Fin 128 → EReal) (a : EReal) : max a (Finset.univ.fold max a f) = Finset.univ.fold max a f :=
  max_eq_right ((Finset.le_fold_max _).mpr (Or.inl le_rfl))

/-- The exponential of the scores minus their maximum. -/
theorem exp_at (x : FVec Ideal S2x4096x16x128 .f32) (b : Fin 2) (q : Fin 4096) (t : Fin 16) (c : Fin 128) :
    Host.exp (subf x (broadcastInDim S2x4096x16x128 ![0, 1, 2, 3] bcast_S2x4096x16x1_S2x4096x16x128_0_1_2_3 (broadcastInDim S2x4096x16x1 ![0, 1, 2] bcast_S2x4096x16_S2x4096x16x1_0_1_2 (maximumf (broadcastInDim S2x4096x16 ![] bcast_S_S2x4096x16 (constant S_ .f32 0xFF800000#32)) (Host.reduce FloatOps.maximumf x (constant S_ .f32 0xFF800000#32) reducesTo_S2x4096x16x128_S2x4096x16_d3 h_S_))))) (ix4 b q t c)
      = Ideal.exp (Spec.shifted (fun k => x (ix4 b q t k)) c) := by
  have h : max (Ideal.ofBits .f32 4286578688#32) (Host.reduce FloatOps.maximumf x (constant S_ .f32 0xFF800000#32) reducesTo_S2x4096x16x128_S2x4096x16_d3 h_S_ (ix3 b q t))
      = Finset.univ.fold max (Ideal.ofBits .f32 4286578688#32) fun k : Fin 128 => x (ix4 b q t k) :=
    (congrArg (max _) (max_at x b q t)).trans (max_again _ _)
  exact (exp_of x _ b q t c).trans (congrArg (fun m => Ideal.exp (x (ix4 b q t c) - m)) h)

/-- The neighbours' scores. -/
theorem v42_at (b : Fin 2) (q : Fin 4096) (t : Fin 16) (c : Fin 128) :
    (res_main_v42 (F := Ideal) V : FVec Ideal S2x4096x16x128 .f32) (ix4 b q t c)
      = Spec.dense (fun k c => (V (Proc.devRef .tc main_arg4) : FVec Ideal S128x128 .f32) (ix2 k c))
          (fun c => (V (Proc.devRef .tc main_arg5) : FVec Ideal S128 .f32) (ix1 c)) (row V b q t) c := by
  pointwise [res_main_v42]
  simp only [v38_at]
  rfl

/-- The numerators of the softmax. -/
theorem v49_at (b : Fin 2) (q : Fin 4096) (t : Fin 16) (c : Fin 128) :
    (res_main_v49 (F := Ideal) V : FVec Ideal S2x4096x16x128 .f32) (ix4 b q t c)
      = Ideal.exp (Spec.shifted (Spec.dense (fun k c => (V (Proc.devRef .tc main_arg4) : FVec Ideal S128x128 .f32) (ix2 k c))
          (fun c => (V (Proc.devRef .tc main_arg5) : FVec Ideal S128 .f32) (ix1 c)) (row V b q t)) c) := by
  unfold res_main_v49
  refine (exp_at (res_main_v42 V) b q t c).trans ?_
  simp only [v42_at]

/-- The result from the feature rows and the softmax's numerators. -/
theorem last_at (x y : FVec Ideal S2x4096x16x128 .f32) (w : FVec Ideal S128x128 .f32) (v : FVec Ideal S128 .f32) (b : Fin 2) (q : Fin 4096) (c : Fin 128) :
    maximumf (addf (Host.dotGeneral dot_S2x4096x128_S128x128_S2x4096x128_2_0_01_1_n_n none (Host.reduceAdd (mulf x (Host.divf y (broadcastInDim S2x4096x16x128 ![0, 1, 2, 3] bcast_S2x4096x16x1_S2x4096x16x128_0_1_2_3 (broadcastInDim S2x4096x16x1 ![0, 1, 2] bcast_S2x4096x16_S2x4096x16x1_0_1_2 (Host.reduceAdd y (constant S_ .f32 0x00000000#32) reducesTo_S2x4096x16x128_S2x4096x16_d3 h_S_))))) (constant S_ .f32 0x00000000#32) reducesTo_S2x4096x16x128_S2x4096x128_d2 h_S_) w) (broadcastInDim S2x4096x128 ![0, 1, 2] bcast_S1x1x128_S2x4096x128_0_1_2 (broadcastInDim S1x1x128 ![2] bcast_S128_S1x1x128_2 v))) (broadcastInDim S2x4096x128 ![] bcast_S_S2x4096x128 (constant (F := Ideal) S_ .f32 0x00000000#32)) (ix3 b q c)
      = max (∑ k, (∑ t, x (ix4 b q t k) * Ideal.div (y (ix4 b q t k)) (∑ k', y (ix4 b q t k'))) * w (ix2 k c) + v (ix1 c)) 0 := by
  pointwise

/-- The reference's result at an index is the plain mathematics of the operation. -/
theorem result_at (b : Fin 2) (q : Fin 4096) (c : Fin 128) :
    maximumf (addf (Host.dotGeneral dot_S2x4096x128_S128x128_S2x4096x128_2_0_01_1_n_n none (φ₂ := .f32) (Host.reduceAdd (mulf (res_main_v38 V) (Host.divf (res_main_v49 V) (broadcastInDim S2x4096x16x128 ![0, 1, 2, 3] bcast_S2x4096x16x1_S2x4096x16x128_0_1_2_3 (broadcastInDim S2x4096x16x1 ![0, 1, 2] bcast_S2x4096x16_S2x4096x16x1_0_1_2 (Host.reduceAdd (res_main_v49 V) (constant S_ .f32 0x00000000#32) reducesTo_S2x4096x16x128_S2x4096x16_d3 h_S_))))) (constant S_ .f32 0x00000000#32) reducesTo_S2x4096x16x128_S2x4096x128_d2 h_S_) (V (Proc.devRef .tc main_arg6))) (broadcastInDim S2x4096x128 ![0, 1, 2] bcast_S1x1x128_S2x4096x128_0_1_2 (broadcastInDim S1x1x128 ![2] bcast_S128_S1x1x128_2 (V (Proc.devRef .tc main_arg7))))) (broadcastInDim S2x4096x128 ![] bcast_S_S2x4096x128 (constant (F := Ideal) S_ .f32 0x00000000#32)) (ix3 b q c)
      = Spec.result (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) b q c := by
  refine (last_at (res_main_v38 V) (res_main_v49 V) (V (Proc.devRef .tc main_arg6)) (V (Proc.devRef .tc main_arg7)) b q c).trans ?_
  simp only [v38_at, v49_at]
  rfl

end Cert.Ref
-- ==== Proof.Algebraic.lean ====
module

public import proofs.«01_k».proof.Proof.Final
public import proofs.«01_k».proof.Proof.Ref
public import Idealize.ShloMosaic.Lib.Claim

/-! The idealized kernel and the idealized reference leave the same array: each leaves the plain mathematics of the
operation on its arguments. -/

@[expose] public section

set_option maxRecDepth 16384

noncomputable section

open Idealize.ShloMosaic Idealize.ShloMosaic.TcCoe Idealize.SL.Sem

namespace Cert.Proof

attribute [local instance] Cert.KernelIdeal.Gen.facts Cert.ReferenceIdeal.Gen.facts Cert.Pre_bounded_and_apart.facts

/-- The mathematics of the operation depends on the eight arrays alone. -/
theorem result_congr {a0 b0 : FVec Ideal ⟨3, ![2, 4096, 3]⟩ .f32} {a1 b1 : FVec Ideal ⟨3, ![2, 4096, 64]⟩ .f32}
    {a2 b2 : FVec Ideal ⟨2, ![10, 64]⟩ .f32} {a3 b3 : FVec Ideal ⟨1, ![64]⟩ .f32} {a4 b4 : FVec Ideal ⟨2, ![128, 128]⟩ .f32}
    {a5 b5 : FVec Ideal ⟨1, ![128]⟩ .f32} {a6 b6 : FVec Ideal ⟨2, ![128, 128]⟩ .f32} {a7 b7 : FVec Ideal ⟨1, ![128]⟩ .f32}
    (h0 : a0 = b0) (h1 : a1 = b1) (h2 : a2 = b2) (h3 : a3 = b3) (h4 : a4 = b4) (h5 : a5 = b5) (h6 : a6 = b6) (h7 : a7 = b7)
    (b : Fin 2) (q : Fin 4096) (c : Fin 128) :
    Spec.result a0 a1 a2 a3 a4 a5 a6 a7 b q c = Spec.result b0 b1 b2 b3 b4 b5 b6 b7 b q c := by
  subst h0 h1 h2 h3 h4 h5 h6 h7
  rfl

/-- From arguments that agree and meet the precondition, the idealized kernel and the idealized reference both run to
the end and leave the same result array. -/
theorem algebraic : Cert.algebraic_KernelIdeal_ReferenceIdeal_pre_bounded_and_apart := by
  intro m g m' g' hpre hargs
  refine ⟨fun c => Kern.goal m c, ?_, ?_⟩
  · refine (θ_run _ _ _).mono (fun r h c => ?_) (Cert.KernelIdeal.Value.run_blocks m g)
    obtain ⟨hv, hr⟩ := h c
    exact ⟨hv.trans (Kern.final m hpre c), hr⟩
  · refine (θ_run _ _ _).mono (fun r h c => ?_) (Cert.ReferenceIdeal.Value.run (F := Ideal) m' g')
    obtain ⟨hv, hr⟩ := h c
    refine ⟨hv.trans ?_, hr⟩
    obtain ⟨h0, h1, h2, h3, h4, h5, h6, h7⟩ := hargs c
    funext i
    obtain ⟨b, q, k, rfl⟩ : ∃ (b : Fin 2) (q : Fin 4096) (k : Fin 128), i = ix3 b q k := ⟨i 0, i 1, i 2, eq_ix3 i⟩
    exact (Ref.result_at (StableHlo.launchContents m' c) b q k).trans (result_congr h0 h1 h2 h3 h4 h5 h6 h7 b q k)

end Cert.Proof

end
-- ==== Proof.lean ====
/- The claims of the fused neighbour-pooling kernel, each by the lemma that proves it. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.PreFacts
public import proofs.«01_k».proof.Proof.Algebraic
public import Idealize.ShloMosaic.Adequacy
public import Idealize.ShloMosaic.Init

@[expose] public section

noncomputable section

namespace Cert.Proof

open Idealize.ShloMosaic Idealize.SL.Sem

/-- The kernel runs without a fault, ends with its arguments unchanged and every semaphore at zero. -/
theorem frame_kernel : Cert.quiescent_Kernel := fun m ρ _ => Cert.Kernel.Gen.frame m ρ

/-- The same of the idealized kernel. -/
theorem frame_kernelIdeal : Cert.quiescent_KernelIdeal := fun m ρ _ => Cert.KernelIdeal.Gen.frame m ρ

/-- The reference runs, ends with its arguments unchanged, and owns no semaphore. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The idealized kernel is the kernel with the mask constant named: the name stands for plus infinity. -/
theorem preserves : Cert.preserves_Kernel_KernelIdeal :=
  IdealRules.named_const.statement _ _ _ _ _ rfl

/-- Everything this certificate claims. -/
theorem claim : Cert.Claim :=
  ⟨Cert.Kernel.Gen.facts, Cert.KernelIdeal.Gen.facts, Cert.ReferenceIdeal.Gen.facts, Cert.Pre_bounded_and_apart.facts,
    frame_kernel, frame_kernelIdeal, fun m ρ _ => Cert.KernelIdeal.Gen.frame m ρ,
    frame_referenceIdeal, fun m ρ _ => frame_referenceIdeal m ρ trivial, preserves, algebraic⟩

end Cert.Proof

end
